-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)) (v4 : (c : Dev Cert.KernelIdeal.nD) → Buf (Elt Ideal) ((c.tc : Thread Cert.KernelIdeal.nD Cert.KernelIdeal.τ).loc Cert.KernelIdeal.main_v22_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x4096 : Shape := ⟨3, ![4, 1, 4096]⟩
abbrev S4x1x16x64 : Shape := ⟨4, ![4, 1, 16, 64]⟩
abbrev S4x32768x16x64 : Shape := ⟨4, ![4, 32768, 16, 64]⟩
abbrev S4x32768x16 : Shape := ⟨3, ![4, 32768, 16]⟩
abbrev S4x64x64 : Shape := ⟨3, ![4, 64, 64]⟩
abbrev S4x4x4x1x4x64 : Shape := ⟨6, ![4, 4, 4, 1, 4, 64]⟩
abbrev S4x4 : Shape := ⟨2, ![4, 4]⟩
abbrev S_ : Shape := ⟨0, ![]⟩
abbrev S1x1x4x4x1x1 : Shape := ⟨6, ![1, 1, 4, 4, 1, 1]⟩
abbrev S4x4x4x4x4x64 : Shape := ⟨6, ![4, 4, 4, 4, 4, 64]⟩
abbrev S4x4x16x256 : Shape := ⟨4, ![4, 4, 16, 256]⟩
abbrev S4x16x64x32768 : Shape := ⟨4, ![4, 16, 64, 32768]⟩
abbrev S4x1024x32768 : Shape := ⟨3, ![4, 1024, 32768]⟩
abbrev S4x16x32768 : Shape := ⟨3, ![4, 16, 32768]⟩
abbrev S4x16x64 : Shape := ⟨3, ![4, 16, 64]⟩
abbrev S4x16x1 : Shape := ⟨3, ![4, 16, 1]⟩
abbrev S1x4x16x256 : Shape := ⟨4, ![1, 4, 16, 256]⟩
abbrev S1x64x64 : Shape := ⟨3, ![1, 64, 64]⟩
abbrev S1x16x64 : Shape := ⟨3, ![1, 16, 64]⟩
abbrev S1x1024x1024 : Shape := ⟨3, ![1, 1024, 1024]⟩
abbrev S1x16x1024 : Shape := ⟨3, ![1, 16, 1024]⟩
abbrev S1x16x1 : Shape := ⟨3, ![1, 16, 1]⟩
abbrev S64x1 : Shape := ⟨2, ![64, 1]⟩
abbrev S64x1024 : Shape := ⟨2, ![64, 1024]⟩
abbrev S1x256x1024 : Shape := ⟨3, ![1, 256, 1024]⟩
abbrev S256x1024 : Shape := ⟨2, ![256, 1024]⟩
abbrev S1x4x1024 : Shape := ⟨3, ![1, 4, 1024]⟩
abbrev S4x1024 : Shape := ⟨2, ![4, 1024]⟩
abbrev S1x1024 : Shape := ⟨2, ![1, 1024]⟩
abbrev S1x1x16x256 : Shape := ⟨4, ![1, 1, 16, 256]⟩
abbrev S16x256 : Shape := ⟨2, ![16, 256]⟩
abbrev S16x1024 : Shape := ⟨2, ![16, 1024]⟩
abbrev S64 : Shape := ⟨1, ![64]⟩
abbrev S1024x1024 : Shape := ⟨2, ![1024, 1024]⟩
abbrev S16x64 : Shape := ⟨2, ![16, 64]⟩
abbrev S16 : Shape := ⟨1, ![16]⟩
abbrev S16x1 : Shape := ⟨2, ![16, 1]⟩
abbrev S64x16 : Shape := ⟨2, ![64, 16]⟩
abbrev S64x64 : Shape := ⟨2, ![64, 64]⟩

abbrev nBuf : Space → Nat
  | .hbm => 35
  | .vmem => 29
  | .smem => 0
  | _ => 0

abbrev bufTy : (tb : Table) → Fin (tcTables nBuf tb) → BufTy
  | .hbm, ⟨0, _⟩ => ⟨S4x1x4096, .bf16⟩
  | .hbm, ⟨1, _⟩ => ⟨S4x1x16x64, .bf16⟩
  | .hbm, ⟨2, _⟩ => ⟨S4x1x16x64, .bf16⟩
  | .hbm, ⟨3, _⟩ => ⟨S4x32768x16x64, .i8⟩
  | .hbm, ⟨4, _⟩ => ⟨S4x32768x16, .f32⟩
  | .hbm, ⟨5, _⟩ => ⟨S4x32768x16x64, .i8⟩
  | .hbm, ⟨6, _⟩ => ⟨S4x32768x16, .f32⟩
  | .hbm, ⟨7, _⟩ => ⟨S4x64x64, .bf16⟩
  | .hbm, ⟨8, _⟩ => ⟨S4x4x4x1x4x64, .bf16⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .bf16⟩
  | .hbm, ⟨16, _⟩ => ⟨S1x1x4x4x1x1, .bf16⟩
  | .hbm, ⟨17, _⟩ => ⟨S4x4x4x4x4x64, .bf16⟩
  | .hbm, ⟨18, _⟩ => ⟨S4x4x4x4x4x64, .bf16⟩
  | .hbm, ⟨19, _⟩ => ⟨S4x4x4x4x4x64, .bf16⟩
  | .hbm, ⟨20, _⟩ => ⟨S4x4x4x4x4x64, .bf16⟩
  | .hbm, ⟨21, _⟩ => ⟨S4x4x16x256, .bf16⟩
  | .hbm, ⟨22, _⟩ => ⟨S4x16x64x32768, .i8⟩
  | .hbm, ⟨23, _⟩ => ⟨S4x1024x32768, .i8⟩
  | .hbm, ⟨24, _⟩ => ⟨S4x16x64x32768, .i8⟩
  | .hbm, ⟨25, _⟩ => ⟨S4x1024x32768, .i8⟩
  | .hbm, ⟨26, _⟩ => ⟨S4x16x32768, .f32⟩
  | .hbm, ⟨27, _⟩ => ⟨S4x16x32768, .f32⟩
  | .hbm, ⟨28, _⟩ => ⟨S4x16x64, .bf16⟩
  | .hbm, ⟨29, _⟩ => ⟨S4x16x64, .bf16⟩
  | .hbm, ⟨30, _⟩ => ⟨S4x64x64, .bf16⟩
  | .hbm, ⟨31, _⟩ => ⟨S4x16x64, .i8⟩
  | .hbm, ⟨32, _⟩ => ⟨S4x16x1, .f32⟩
  | .hbm, ⟨33, _⟩ => ⟨S4x16x64, .i8⟩
  | .hbm, ⟨34, _⟩ => ⟨S4x16x1, .f32⟩
  | .local _ .vmem, ⟨0, _⟩ => ⟨S1x4x16x256, .bf16⟩
  | .local _ .vmem, ⟨1, _⟩ => ⟨S1x4x16x256, .bf16⟩
  | .local _ .vmem, ⟨2, _⟩ => ⟨S1x64x64, .bf16⟩
  | .local _ .vmem, ⟨3, _⟩ => ⟨S1x64x64, .bf16⟩
  | .local _ .vmem, ⟨4, _⟩ => ⟨S1x16x64, .bf16⟩
  | .local _ .vmem, ⟨5, _⟩ => ⟨S1x16x64, .bf16⟩
  | .local _ .vmem, ⟨6, _⟩ => ⟨S1x16x64, .bf16⟩
  | .local _ .vmem, ⟨7, _⟩ => ⟨S1x16x64, .bf16⟩
  | .local _ .vmem, ⟨8, _⟩ => ⟨S1x1024x1024, .i8⟩
  | .local _ .vmem, ⟨9, _⟩ => ⟨S1x1024x1024, .i8⟩
  | .local _ .vmem, ⟨10, _⟩ => ⟨S1x16x1024, .f32⟩
  | .local _ .vmem, ⟨11, _⟩ => ⟨S1x16x1024, .f32⟩
  | .local _ .vmem, ⟨12, _⟩ => ⟨S1x1024x1024, .i8⟩
  | .local _ .vmem, ⟨13, _⟩ => ⟨S1x1024x1024, .i8⟩
  | .local _ .vmem, ⟨14, _⟩ => ⟨S1x16x1024, .f32⟩
  | .local _ .vmem, ⟨15, _⟩ => ⟨S1x16x1024, .f32⟩
  | .local _ .vmem, ⟨16, _⟩ => ⟨S1x64x64, .bf16⟩
  | .local _ .vmem, ⟨17, _⟩ => ⟨S1x64x64, .bf16⟩
  | .local _ .vmem, ⟨18, _⟩ => ⟨S1x16x64, .i8⟩
  | .local _ .vmem, ⟨19, _⟩ => ⟨S1x16x64, .i8⟩
  | .local _ .vmem, ⟨20, _⟩ => ⟨S1x16x1, .f32⟩
  | .local _ .vmem, ⟨21, _⟩ => ⟨S1x16x1, .f32⟩
  | .local _ .vmem, ⟨22, _⟩ => ⟨S1x16x64, .i8⟩
  | .local _ .vmem, ⟨23, _⟩ => ⟨S1x16x64, .i8⟩
  | .local _ .vmem, ⟨24, _⟩ => ⟨S1x16x1, .f32⟩
  | .local _ .vmem, ⟨25, _⟩ => ⟨S1x16x1, .f32⟩
  | .local _ .vmem, ⟨26, _⟩ => ⟨S64x1, .f32⟩
  | .local _ .vmem, ⟨27, _⟩ => ⟨S64x1, .f32⟩
  | .local _ .vmem, ⟨28, _⟩ => ⟨S64x1024, .f32⟩
  | _, _ => ⟨S4x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v183 : BitVec 1 := Scalar.cmpi .eq arg1 c31_i32
  let v184 : BitVec 32 := Scalar.extui v183
  let c0_i32_56 : BitVec 32 := 0#32
  let v185 : BitVec 1 := Scalar.cmpi .ne v184 c0_i32_56
  v185

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x64 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x16x64 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x16x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4x1x4096 : Shape := ⟨3, ![4, 1, 4096]⟩
abbrev S4x1x16x64 : Shape := ⟨4, ![4, 1, 16, 64]⟩
abbrev S4x32768x16x64 : Shape := ⟨4, ![4, 32768, 16, 64]⟩
abbrev S4x32768x16 : Shape := ⟨3, ![4, 32768, 16]⟩
abbrev S_ : Shape := ⟨0, ![]⟩
abbrev S4x16x4x1 : Shape := ⟨4, ![4, 16, 4, 1]⟩
abbrev S4x16x4x1x64 : Shape := ⟨5, ![4, 16, 4, 1, 64]⟩
abbrev S32 : Shape := ⟨1, ![32]⟩
abbrev S1 : Shape := ⟨1, ![1]⟩
abbrev S4x1024x16x64 : Shape := ⟨4, ![4, 1024, 16, 64]⟩
abbrev S4x1024x16 : Shape := ⟨3, ![4, 1024, 16]⟩
abbrev S4x1024x16x1 : Shape := ⟨4, ![4, 1024, 16, 1]⟩
abbrev S4x1x16x4x64 : Shape := ⟨5, ![4, 1, 16, 4, 64]⟩
abbrev S4x16x1024x1x4 : Shape := ⟨5, ![4, 16, 1024, 1, 4]⟩
abbrev S4x16x4x1x1024 : Shape := ⟨5, ![4, 16, 4, 1, 1024]⟩
abbrev S4x16x4x1x1 : Shape := ⟨5, ![4, 16, 4, 1, 1]⟩
abbrev S4x1x16 : Shape := ⟨3, ![4, 1, 16]⟩
abbrev S4x1x16x1 : Shape := ⟨4, ![4, 1, 16, 1]⟩
abbrev S1x1 : Shape := ⟨2, ![1, 1]⟩
abbrev S4x16x1x1x4 : Shape := ⟨5, ![4, 16, 1, 1, 4]⟩
abbrev S4x64x64 : Shape := ⟨3, ![4, 64, 64]⟩
abbrev S4x16x64 : Shape := ⟨3, ![4, 16, 64]⟩
abbrev S4x16x1 : Shape := ⟨3, ![4, 16, 1]⟩

abbrev nBuf : Space → Nat
  | .hbm => 230
  | .vmem => 0
  | .smem => 0
  | _ => 0

abbrev hbmTy0_0 (i : Nat) : BufTy := match i % 128 with
  | 0 => ⟨S4x1x4096, .bf16⟩
  | 1 => ⟨S4x1x16x64, .bf16⟩
  | 2 => ⟨S4x1x16x64, .bf16⟩
  | 3 => ⟨S4x32768x16x64, .i8⟩
  | 4 => ⟨S4x32768x16, .f32⟩
  | 5 => ⟨S4x32768x16x64, .i8⟩
  | 6 => ⟨S4x32768x16, .f32⟩
  | 7 => ⟨S_, .f32⟩
  | 8 => ⟨S4x16x4x1, .f32⟩
  | 9 => ⟨S_, .f32⟩
  | 10 => ⟨S4x16x4x1, .f32⟩
  | 11 => ⟨S_, .f32⟩
  | 12 => ⟨S4x16x4x1x64, .f32⟩
  | 13 => ⟨S32, .i32⟩
  | 14 => ⟨S_, .i32⟩
  | 15 => ⟨S32, .i32⟩
  | 16 => ⟨S32, .i32⟩
  | 17 => ⟨S_, .i32⟩
  | 18 => ⟨S32, .i32⟩
  | 19 => ⟨S4x32768x16x64, .i8⟩
  | 20 => ⟨S4x32768x16, .f32⟩
  | 21 => ⟨S4x32768x16x64, .i8⟩
  | 22 => ⟨S4x32768x16, .f32⟩
  | 23 => ⟨S4x1x4096, .bf16⟩
  | 24 => ⟨S_, .i32⟩
  | 25 => ⟨S4x16x4x1, .f32⟩
  | 26 => ⟨S4x16x4x1, .f32⟩
  | 27 => ⟨S4x16x4x1x64, .f32⟩
  | 28 => ⟨S_, .i32⟩
  | 29 => ⟨S_, .i1⟩
  | 30 => ⟨S1, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S4x1024x16x64, .i8⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S4x1024x16, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S4x1024x16x64, .i8⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S4x1024x16, .f32⟩
  | 66 => ⟨S4x1024x16x64, .i32⟩
  | 67 => ⟨S4x1024x16x64, .f32⟩
  | 68 => ⟨S4x1024x16x64, .bf16⟩
  | 69 => ⟨S4x1024x16x1, .f32⟩
  | 70 => ⟨S4x1024x16x1, .bf16⟩
  | 71 => ⟨S4x1024x16x64, .bf16⟩
  | 72 => ⟨S4x1024x16x64, .bf16⟩
  | 73 => ⟨S4x1024x16x64, .i32⟩
  | 74 => ⟨S4x1024x16x64, .f32⟩
  | 75 => ⟨S4x1024x16x64, .bf16⟩
  | 76 => ⟨S4x1024x16x1, .f32⟩
  | 77 => ⟨S4x1024x16x1, .bf16⟩
  | 78 => ⟨S4x1024x16x64, .bf16⟩
  | 79 => ⟨S4x1024x16x64, .bf16⟩
  | 80 => ⟨S4x1x16x4x64, .bf16⟩
  | 81 => ⟨S4x16x1024x1x4, .f32⟩
  | 82 => ⟨S4x16x4x1x1024, .f32⟩
  | 83 => ⟨S_, .f32⟩
  | 84 => ⟨S4x16x4x1x1024, .f32⟩
  | 85 => ⟨S4x16x4x1x1024, .f32⟩
  | 86 => ⟨S_, .f32⟩
  | 87 => ⟨S4x16x4x1, .f32⟩
  | 88 => ⟨S4x16x4x1, .f32⟩
  | 89 => ⟨S4x16x4x1, .f32⟩
  | 90 => ⟨S4x16x4x1, .f32⟩
  | 91 => ⟨S4x16x4x1x1, .f32⟩
  | 92 => ⟨S4x16x4x1x1024, .f32⟩
  | 93 => ⟨S4x16x4x1x1024, .f32⟩
  | 94 => ⟨S4x16x4x1x1024, .f32⟩
  | 95 => ⟨S4x16x4x1, .f32⟩
  | 96 => ⟨S_, .f32⟩
  | 97 => ⟨S4x16x4x1, .f32⟩
  | 98 => ⟨S4x16x4x1, .f32⟩
  | 99 => ⟨S4x16x4x1x1, .f32⟩
  | 100 => ⟨S4x16x4x1x64, .f32⟩
  | 101 => ⟨S4x16x4x1x64, .f32⟩
  | 102 => ⟨S4x1024x16x64, .f32⟩
  | 103 => ⟨S4x16x4x1x64, .f32⟩
  | 104 => ⟨S4x16x4x1x64, .f32⟩
  | 105 => ⟨S_, .i32⟩
  | 106 => ⟨S_, .i32⟩
  | 107 => ⟨S4x1x16x64, .f32⟩
  | 108 => ⟨S4x1x16x64, .f32⟩
  | 109 => ⟨S_, .f32⟩
  | 110 => ⟨S4x1x16, .f32⟩
  | 111 => ⟨S_, .f32⟩
  | 112 => ⟨S4x1x16, .f32⟩
  | 113 => ⟨S4x1x16, .i1⟩
  | 114 => ⟨S_, .f32⟩
  | 115 => ⟨S4x1x16, .f32⟩
  | 116 => ⟨S4x1x16, .f32⟩
  | 117 => ⟨S_, .f32⟩
  | 118 => ⟨S4x1x16, .f32⟩
  | 119 => ⟨S4x1x16, .f32⟩
  | 120 => ⟨S4x1x16x1, .f32⟩
  | 121 => ⟨S4x1x16x64, .f32⟩
  | 122 => ⟨S4x1x16x64, .f32⟩
  | 123 => ⟨S4x1x16x64, .f32⟩
  | 124 => ⟨S_, .f32⟩
  | 125 => ⟨S_, .f32⟩
  | 126 => ⟨S_, .f32⟩
  | 127 => ⟨S4x1x16x64, .f32⟩
  | _ => ⟨S4x1x4096, .bf16⟩

abbrev hbmTy0_1 (i : Nat) : BufTy := match i % 128 with
  | 0 => ⟨S4x1x16x64, .f32⟩
  | 1 => ⟨S_, .f32⟩
  | 2 => ⟨S4x1x16x64, .f32⟩
  | 3 => ⟨S4x1x16x64, .f32⟩
  | 4 => ⟨S4x1x16x64, .i32⟩
  | 5 => ⟨S4x1x16x64, .i8⟩
  | 6 => ⟨S4x1x16x64, .i8⟩
  | 7 => ⟨S4x1x16, .f32⟩
  | 8 => ⟨S4x1x16x64, .f32⟩
  | 9 => ⟨S4x1x16x64, .f32⟩
  | 10 => ⟨S_, .f32⟩
  | 11 => ⟨S4x1x16, .f32⟩
  | 12 => ⟨S_, .f32⟩
  | 13 => ⟨S4x1x16, .f32⟩
  | 14 => ⟨S4x1x16, .i1⟩
  | 15 => ⟨S_, .f32⟩
  | 16 => ⟨S4x1x16, .f32⟩
  | 17 => ⟨S4x1x16, .f32⟩
  | 18 => ⟨S_, .f32⟩
  | 19 => ⟨S4x1x16, .f32⟩
  | 20 => ⟨S4x1x16, .f32⟩
  | 21 => ⟨S4x1x16x1, .f32⟩
  | 22 => ⟨S4x1x16x64, .f32⟩
  | 23 => ⟨S4x1x16x64, .f32⟩
  | 24 => ⟨S4x1x16x64, .f32⟩
  | 25 => ⟨S_, .f32⟩
  | 26 => ⟨S_, .f32⟩
  | 27 => ⟨S_, .f32⟩
  | 28 => ⟨S4x1x16x64, .f32⟩
  | 29 => ⟨S4x1x16x64, .f32⟩
  | 30 => ⟨S_, .f32⟩
  | 31 => ⟨S4x1x16x64, .f32⟩
  | 32 => ⟨S4x1x16x64, .f32⟩
  | 33 => ⟨S4x1x16x64, .i32⟩
  | 34 => ⟨S4x1x16x64, .i8⟩
  | 35 => ⟨S4x1x16x64, .i8⟩
  | 36 => ⟨S4x1x16, .f32⟩
  | 37 => ⟨S_, .i1⟩
  | 38 => ⟨S1x1, .i1⟩
  | 39 => ⟨S1x1, .i32⟩
  | 40 => ⟨S_, .i32⟩
  | 41 => ⟨S1x1, .i32⟩
  | 42 => ⟨S1x1, .i32⟩
  | 43 => ⟨S1x1, .i32⟩
  | 44 => ⟨S1x1, .i1⟩
  | 45 => ⟨S_, .i1⟩
  | 46 => ⟨S1x1, .i1⟩
  | 47 => ⟨S1x1, .i1⟩
  | 48 => ⟨S4x1x16x64, .i32⟩
  | 49 => ⟨S4x1x16x64, .f32⟩
  | 50 => ⟨S4x1x16x64, .bf16⟩
  | 51 => ⟨S4x1x16x1, .f32⟩
  | 52 => ⟨S4x1x16x1, .bf16⟩
  | 53 => ⟨S4x1x16x64, .bf16⟩
  | 54 => ⟨S4x1x16x64, .bf16⟩
  | 55 => ⟨S4x1x16x64, .i32⟩
  | 56 => ⟨S4x1x16x64, .f32⟩
  | 57 => ⟨S4x1x16x64, .bf16⟩
  | 58 => ⟨S4x1x16x1, .f32⟩
  | 59 => ⟨S4x1x16x1, .bf16⟩
  | 60 => ⟨S4x1x16x64, .bf16⟩
  | 61 => ⟨S4x1x16x64, .bf16⟩
  | 62 => ⟨S4x1x16x4x64, .bf16⟩
  | 63 => ⟨S4x16x1x1x4, .f32⟩
  | 64 => ⟨S4x16x4x1x1, .f32⟩
  | 65 => ⟨S_, .f32⟩
  | 66 => ⟨S4x16x4x1x1, .f32⟩
  | 67 => ⟨S4x16x4x1x1, .f32⟩
  | 68 => ⟨S_, .f32⟩
  | 69 => ⟨S_, .f32⟩
  | 70 => ⟨S4x16x4x1x1, .i1⟩
  | 71 => ⟨S4x16x4x1x1, .f32⟩
  | 72 => ⟨S4x16x4x1x1, .f32⟩
  | 73 => ⟨S_, .f32⟩
  | 74 => ⟨S4x16x4x1, .f32⟩
  | 75 => ⟨S4x16x4x1, .f32⟩
  | 76 => ⟨S4x16x4x1, .f32⟩
  | 77 => ⟨S4x16x4x1, .f32⟩
  | 78 => ⟨S4x16x4x1x1, .f32⟩
  | 79 => ⟨S4x16x4x1x1, .f32⟩
  | 80 => ⟨S4x16x4x1x1, .f32⟩
  | 81 => ⟨S4x16x4x1, .f32⟩
  | 82 => ⟨S_, .f32⟩
  | 83 => ⟨S4x16x4x1, .f32⟩
  | 84 => ⟨S4x16x4x1, .f32⟩
  | 85 => ⟨S4x16x4x1x1, .f32⟩
  | 86 => ⟨S4x16x4x1x64, .f32⟩
  | 87 => ⟨S4x16x4x1x64, .f32⟩
  | 88 => ⟨S4x1x16x64, .f32⟩
  | 89 => ⟨S4x16x4x1x64, .f32⟩
  | 90 => ⟨S4x16x4x1x64, .f32⟩
  | 91 => ⟨S4x16x4x1x1, .f32⟩
  | 92 => ⟨S4x16x4x1x64, .f32⟩
  | 93 => ⟨S4x16x4x1x64, .f32⟩
  | 94 => ⟨S4x1x16x4x64, .f32⟩
  | 95 => ⟨S4x1x4096, .f32⟩
  | 96 => ⟨S4x1x4096, .bf16⟩
  | 97 => ⟨S4x64x64, .bf16⟩
  | 98 => ⟨S4x16x64, .i8⟩
  | 99 => ⟨S4x16x1, .f32⟩
  | 100 => ⟨S4x16x64, .i8⟩
  | 101 => ⟨S4x16x1, .f32⟩
  | _ => ⟨S4x1x4096, .bf16⟩

abbrev hbmTy (i : Nat) : BufTy := match i / 128 with
  | 0 => hbmTy0_0 i
  | 1 => hbmTy0_1 i
  | _ => ⟨S4x1x4096, .bf16⟩

abbrev bufTy : (tb : Table) → Fin (tcTables nBuf tb) → BufTy
  | .hbm, ⟨i, _⟩ => hbmTy i
  | _, _ => ⟨S4x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v6_8 : Ref sig .tc := ⟨.hbm, 26, rfl⟩
abbrev main_v6_9 : Ref sig .tc := ⟨.hbm, 27, rfl⟩
abbrev main_while0c_c_29 : Ref sig .tc := ⟨.hbm, 28, rfl⟩
abbrev main_while0c_v88 : Ref sig .tc := ⟨.hbm, 29, rfl⟩
abbrev main_while0b_call0_v0 : Ref sig .tc := ⟨.hbm, 30, rfl⟩
abbrev main_while0b_v88 : Ref sig .tc := ⟨.hbm, 31, rfl⟩
abbrev main_while0b_c_29 : Ref sig .tc := ⟨.hbm, 32, rfl⟩
abbrev main_while0b_v89 : Ref sig .tc := ⟨.hbm, 33, rfl⟩
abbrev main_while0b_c_30 : Ref sig .tc := ⟨.hbm, 34, rfl⟩
abbrev main_while0b_v90 : Ref sig .tc := ⟨.hbm, 35, rfl⟩
abbrev main_while0b_v91 : Ref sig .tc := ⟨.hbm, 36, rfl⟩
abbrev main_while0b_c_31 : Ref sig .tc := ⟨.hbm, 37, rfl⟩
abbrev main_while0b_c_32 : Ref sig .tc := ⟨.hbm, 38, rfl⟩
abbrev main_while0b_c_33 : Ref sig .tc := ⟨.hbm, 39, rfl⟩
abbrev main_while0b_v92 : Ref sig .tc := ⟨.hbm, 40, rfl⟩
abbrev main_while0b_c_34 : Ref sig .tc := ⟨.hbm, 41, rfl⟩
abbrev main_while0b_v93 : Ref sig .tc := ⟨.hbm, 42, rfl⟩
abbrev main_while0b_c_35 : Ref sig .tc := ⟨.hbm, 43, rfl⟩
abbrev main_while0b_v94 : Ref sig .tc := ⟨.hbm, 44, rfl⟩
abbrev main_while0b_v95 : Ref sig .tc := ⟨.hbm, 45, rfl⟩
abbrev main_while0b_c_36 : Ref sig .tc := ⟨.hbm, 46, rfl⟩
abbrev main_while0b_c_37 : Ref sig .tc := ⟨.hbm, 47, rfl⟩
abbrev main_while0b_v96 : Ref sig .tc := ⟨.hbm, 48, rfl⟩
abbrev main_while0b_c_38 : Ref sig .tc := ⟨.hbm, 49, rfl⟩
abbrev main_while0b_v97 : Ref sig .tc := ⟨.hbm, 50, rfl⟩
abbrev main_while0b_c_39 : Ref sig .tc := ⟨.hbm, 51, rfl⟩
abbrev main_while0b_v98 : Ref sig .tc := ⟨.hbm, 52, rfl⟩
abbrev main_while0b_v99 : Ref sig .tc := ⟨.hbm, 53, rfl⟩
abbrev main_while0b_c_40 : Ref sig .tc := ⟨.hbm, 54, rfl⟩
abbrev main_while0b_c_41 : Ref sig .tc := ⟨.hbm, 55, rfl⟩
abbrev main_while0b_c_42 : Ref sig .tc := ⟨.hbm, 56, rfl⟩
abbrev main_while0b_v100 : Ref sig .tc := ⟨.hbm, 57, rfl⟩
abbrev main_while0b_c_43 : Ref sig .tc := ⟨.hbm, 58, rfl⟩
abbrev main_while0b_v101 : Ref sig .tc := ⟨.hbm, 59, rfl⟩
abbrev main_while0b_c_44 : Ref sig .tc := ⟨.hbm, 60, rfl⟩
abbrev main_while0b_v102 : Ref sig .tc := ⟨.hbm, 61, rfl⟩
abbrev main_while0b_v103 : Ref sig .tc := ⟨.hbm, 62, rfl⟩
abbrev main_while0b_c_45 : Ref sig .tc := ⟨.hbm, 63, rfl⟩
abbrev main_while0b_c_46 : Ref sig .tc := ⟨.hbm, 64, rfl⟩
abbrev main_while0b_v104 : Ref sig .tc := ⟨.hbm, 65, rfl⟩
abbrev main_while0b_v105 : Ref sig .tc := ⟨.hbm, 66, rfl⟩
abbrev main_while0b_v106 : Ref sig .tc := ⟨.hbm, 67, rfl⟩
abbrev main_while0b_v107 : Ref sig .tc := ⟨.hbm, 68, rfl⟩
abbrev main_while0b_v108 : Ref sig .tc := ⟨.hbm, 69, rfl⟩
abbrev main_while0b_v109 : Ref sig .tc := ⟨.hbm, 70, rfl⟩
abbrev main_while0b_v110 : Ref sig .tc := ⟨.hbm, 71, rfl⟩
abbrev main_while0b_v111 : Ref sig .tc := ⟨.hbm, 72, rfl⟩
abbrev main_while0b_v112 : Ref sig .tc := ⟨.hbm, 73, rfl⟩
abbrev main_while0b_v113 : Ref sig .tc := ⟨.hbm, 74, rfl⟩
abbrev main_while0b_v114 : Ref sig .tc := ⟨.hbm, 75, rfl⟩
abbrev main_while0b_v115 : Ref sig .tc := ⟨.hbm, 76, rfl⟩
abbrev main_while0b_v116 : Ref sig .tc := ⟨.hbm, 77, rfl⟩
abbrev main_while0b_v117 : Ref sig .tc := ⟨.hbm, 78, rfl⟩
abbrev main_while0b_v118 : Ref sig .tc := ⟨.hbm, 79, rfl⟩
abbrev main_while0b_v119 : Ref sig .tc := ⟨.hbm, 80, rfl⟩
abbrev main_while0b_v120 : Ref sig .tc := ⟨.hbm, 81, rfl⟩
abbrev main_while0b_v121 : Ref sig .tc := ⟨.hbm, 82, rfl⟩
abbrev main_while0b_cst_47 : Ref sig .tc := ⟨.hbm, 83, rfl⟩
abbrev main_while0b_v122 : Ref sig .tc := ⟨.hbm, 84, rfl⟩
abbrev main_while0b_v123 : Ref sig .tc := ⟨.hbm, 85, rfl⟩
abbrev main_while0b_cst_48 : Ref sig .tc := ⟨.hbm, 86, rfl⟩
abbrev main_while0b_v124 : Ref sig .tc := ⟨.hbm, 87, rfl⟩
abbrev main_while0b_v125 : Ref sig .tc := ⟨.hbm, 88, rfl⟩
abbrev main_while0b_v126 : Ref sig .tc := ⟨.hbm, 89, rfl⟩
abbrev main_while0b_v127 : Ref sig .tc := ⟨.hbm, 90, rfl⟩
abbrev main_while0b_v128 : Ref sig .tc := ⟨.hbm, 91, rfl⟩
abbrev main_while0b_v129 : Ref sig .tc := ⟨.hbm, 92, rfl⟩
abbrev main_while0b_v130 : Ref sig .tc := ⟨.hbm, 93, rfl⟩
abbrev main_while0b_v131 : Ref sig .tc := ⟨.hbm, 94, rfl⟩
abbrev main_while0b_v132 : Ref sig .tc := ⟨.hbm, 95, rfl⟩
abbrev main_while0b_cst_49 : Ref sig .tc := ⟨.hbm, 96, rfl⟩
abbrev main_while0b_v133 : Ref sig .tc := ⟨.hbm, 97, rfl⟩
abbrev main_while0b_v134 : Ref sig .tc := ⟨.hbm, 98, rfl⟩
abbrev main_while0b_v135 : Ref sig .tc := ⟨.hbm, 99, rfl⟩
abbrev main_while0b_v136 : Ref sig .tc := ⟨.hbm, 100, rfl⟩
abbrev main_while0b_v137 : Ref sig .tc := ⟨.hbm, 101, rfl⟩
abbrev main_while0b_v138 : Ref sig .tc := ⟨.hbm, 102, rfl⟩
abbrev main_while0b_v139 : Ref sig .tc := ⟨.hbm, 103, rfl⟩
abbrev main_while0b_v140 : Ref sig .tc := ⟨.hbm, 104, rfl⟩
abbrev main_while0b_c_50 : Ref sig .tc := ⟨.hbm, 105, rfl⟩
abbrev main_while0b_v141 : Ref sig .tc := ⟨.hbm, 106, rfl⟩
abbrev main_v7 : Ref sig .tc := ⟨.hbm, 107, rfl⟩
abbrev main_v8 : Ref sig .tc := ⟨.hbm, 108, rfl⟩
abbrev main_cst_3 : Ref sig .tc := ⟨.hbm, 109, rfl⟩
abbrev main_v9 : Ref sig .tc := ⟨.hbm, 110, rfl⟩
abbrev main_cst_4 : Ref sig .tc := ⟨.hbm, 111, rfl⟩
abbrev main_v10 : Ref sig .tc := ⟨.hbm, 112, rfl⟩
abbrev main_v11 : Ref sig .tc := ⟨.hbm, 113, rfl⟩
abbrev main_cst_5 : Ref sig .tc := ⟨.hbm, 114, rfl⟩
abbrev main_v12 : Ref sig .tc := ⟨.hbm, 115, rfl⟩
abbrev main_v13 : Ref sig .tc := ⟨.hbm, 116, rfl⟩
abbrev main_cst_6 : Ref sig .tc := ⟨.hbm, 117, rfl⟩
abbrev main_call1_v0 : Ref sig .tc := ⟨.hbm, 118, rfl⟩
abbrev main_v14 : Ref sig .tc := ⟨.hbm, 119, rfl⟩
abbrev main_v15 : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_cst_7 : Ref sig .tc := ⟨.hbm, 124, rfl⟩
abbrev main_cst_8 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v19 : Ref sig .tc := ⟨.hbm, 131, rfl⟩
abbrev main_v20 : Ref sig .tc := ⟨.hbm, 132, rfl⟩
abbrev main_v21 : Ref sig .tc := ⟨.hbm, 133, rfl⟩
abbrev main_v22_0 : Ref sig .tc := ⟨.hbm, 134, rfl⟩
abbrev main_v22_1 : Ref sig .tc := ⟨.hbm, 135, rfl⟩
abbrev main_v23 : Ref sig .tc := ⟨.hbm, 136, rfl⟩
abbrev main_v24 : Ref sig .tc := ⟨.hbm, 137, rfl⟩
abbrev main_cst_9 : Ref sig .tc := ⟨.hbm, 138, rfl⟩
abbrev main_v25 : Ref sig .tc := ⟨.hbm, 139, rfl⟩
abbrev main_cst_10 : Ref sig .tc := ⟨.hbm, 140, rfl⟩
abbrev main_v26 : Ref sig .tc := ⟨.hbm, 141, rfl⟩
abbrev main_v27 : Ref sig .tc := ⟨.hbm, 142, rfl⟩
abbrev main_cst_11 : Ref sig .tc := ⟨.hbm, 143, rfl⟩
abbrev main_v28 : Ref sig .tc := ⟨.hbm, 144, rfl⟩
abbrev main_v29 : Ref sig .tc := ⟨.hbm, 145, rfl⟩
abbrev main_cst_12 : Ref sig .tc := ⟨.hbm, 146, rfl⟩
abbrev main_call4_v0 : Ref sig .tc := ⟨.hbm, 147, rfl⟩
abbrev main_v30 : Ref sig .tc := ⟨.hbm, 148, rfl⟩
abbrev main_v31 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_cst_13 : Ref sig .tc := ⟨.hbm, 153, rfl⟩
abbrev main_cst_14 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_v38_0 : Ref sig .tc := ⟨.hbm, 163, rfl⟩
abbrev main_v38_1 : Ref sig .tc := ⟨.hbm, 164, rfl⟩
abbrev main_c_15 : Ref sig .tc := ⟨.hbm, 165, rfl⟩
abbrev main_v39 : Ref sig .tc := ⟨.hbm, 166, rfl⟩
abbrev main_call7_v0 : Ref sig .tc := ⟨.hbm, 167, rfl⟩
abbrev main_call7_c : Ref sig .tc := ⟨.hbm, 168, rfl⟩
abbrev main_call7_v1 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_call7_c_0 : Ref sig .tc := ⟨.hbm, 173, rfl⟩
abbrev main_call7_v5 : Ref sig .tc := ⟨.hbm, 174, rfl⟩
abbrev main_v40 : Ref sig .tc := ⟨.hbm, 175, rfl⟩
abbrev main_v41 : Ref sig .tc := ⟨.hbm, 176, rfl⟩
abbrev main_v42 : Ref sig .tc := ⟨.hbm, 177, rfl⟩
abbrev main_v43 : Ref sig .tc := ⟨.hbm, 178, rfl⟩
abbrev main_v44 : Ref sig .tc := ⟨.hbm, 179, rfl⟩
abbrev main_v45 : Ref sig .tc := ⟨.hbm, 180, rfl⟩
abbrev main_v46 : Ref sig .tc := ⟨.hbm, 181, rfl⟩
abbrev main_v47 : Ref sig .tc := ⟨.hbm, 182, rfl⟩
abbrev main_v48 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_v54 : Ref sig .tc := ⟨.hbm, 189, rfl⟩
abbrev main_v55 : Ref sig .tc := ⟨.hbm, 190, rfl⟩
abbrev main_v56 : Ref sig .tc := ⟨.hbm, 191, rfl⟩
abbrev main_v57 : Ref sig .tc := ⟨.hbm, 192, rfl⟩
abbrev main_cst_16 : Ref sig .tc := ⟨.hbm, 193, rfl⟩
abbrev main_v58 : Ref sig .tc := ⟨.hbm, 194, rfl⟩
abbrev main_v59 : Ref sig .tc := ⟨.hbm, 195, rfl⟩
abbrev main_cst_17 : Ref sig .tc := ⟨.hbm, 196, rfl⟩
abbrev main_call8_v0 : Ref sig .tc := ⟨.hbm, 197, rfl⟩
abbrev main_call8_v1 : Ref sig .tc := ⟨.hbm, 198, rfl⟩
abbrev main_call8_v2 : Ref sig .tc := ⟨.hbm, 199, rfl⟩
abbrev main_v60 : Ref sig .tc := ⟨.hbm, 200, rfl⟩
abbrev main_cst_18 : Ref sig .tc := ⟨.hbm, 201, rfl⟩
abbrev main_v61 : Ref sig .tc := ⟨.hbm, 202, rfl⟩
abbrev main_v62 : Ref sig .tc := ⟨.hbm, 203, rfl⟩
abbrev main_v63 : Ref sig .tc := ⟨.hbm, 204, rfl⟩
abbrev main_v64 : Ref sig .tc := ⟨.hbm, 205, rfl⟩
abbrev main_v65 : Ref sig .tc := ⟨.hbm, 206, rfl⟩
abbrev main_v66 : Ref sig .tc := ⟨.hbm, 207, rfl⟩
abbrev main_v67 : Ref sig .tc := ⟨.hbm, 208, rfl⟩
abbrev main_v68 : Ref sig .tc := ⟨.hbm, 209, rfl⟩
abbrev main_cst_19 : Ref sig .tc := ⟨.hbm, 210, rfl⟩
abbrev main_v69 : Ref sig .tc := ⟨.hbm, 211, rfl⟩
abbrev main_v70 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_v77 : Ref sig .tc := ⟨.hbm, 219, rfl⟩
abbrev main_v78 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩

abbrev nD : Nat := 1
abbrev τ : Topo := Topo.v7x

variable {F : FTy → Type} [FloatOps F]

abbrev main_while0_count : Scf.Loop 32 := ⟨0#32, 32#32, 1#32⟩
-- ==== Proof.Spec.lean ====
/-
  The mathematics both programs compute, on extended reals: one block of an online softmax over 1024 tokens for one
  query row, and the last update with the single new token.
-/
module

public import Idealize.ShloMosaic.Lib.Pointwise

@[expose] public section

noncomputable section

namespace Cert.Spec

open Idealize.ShloMosaic

/-- The score scale, one eighth. -/
def scale : EReal := Ideal.ofBits FTy.f32 0x3E000000#32

/-- The value a running maximum starts from. -/
def negInf : EReal := Ideal.ofBits FTy.f32 0xFF800000#32

/-- The scaled score of a query row against one key row. -/
def score (q k : Fin 64 → EReal) : EReal := (∑ d, q d * k d) * scale

/-- The running maximum after a block with scores `s`. -/
def newMax (m : EReal) (s : Fin 1024 → EReal) : EReal := max m (Finset.univ.fold max negInf s)

/-- The factor by which the old sum and accumulator are rescaled. -/
def alpha (m : EReal) (s : Fin 1024 → EReal) : EReal := Ideal.exp (m - newMax m s)

/-- The weight of one token of the block. -/
def prob (m : EReal) (s : Fin 1024 → EReal) (t : Fin 1024) : EReal := Ideal.exp (s t - newMax m s)

/-- The running sum after the block. -/
def newSum (m l : EReal) (s : Fin 1024 → EReal) : EReal := alpha m s * l + ∑ t, prob m s t

/-- One accumulator lane after the block, from the lane's values. -/
def newAcc (m a : EReal) (s v : Fin 1024 → EReal) : EReal := alpha m s * a + ∑ t, prob m s t * v t

/-- A sum over 256 positions as four runs of 64. -/
theorem sum256 (f : Fin 256 → EReal) :
    ∑ k, f k = ∑ e : Fin 4, ∑ d : Fin 64, f ⟨64 * e.val + d.val, by omega⟩ := by
  rw [← Fintype.sum_prod_type', ← Equiv.sum_comp (finProdFinEquiv : Fin 4 × Fin 64 ≃ Fin 256)]
  refine Finset.sum_congr rfl fun p _ => congrArg f (Fin.ext ?_)
  simp [finProdFinEquiv]
  omega

/-- Row of the 64 query rows: key head `h`, query `g` of its group of four. -/
abbrev row (h : Fin 16) (g : Fin 4) : Fin 64 := ⟨4 * h.val + g.val, by omega⟩

/-- Lane of the 1024 head lanes: key head `h`, dimension `d`. -/
abbrev lane (h : Fin 16) (d : Fin 64) : Fin 1024 := ⟨64 * h.val + d.val, by omega⟩

/-- Row of a sixteen-row group. -/
abbrev row4 (a g : Fin 4) : Fin 16 := ⟨4 * a.val + g.val, by omega⟩

/-- Lane of a group of four heads. -/
abbrev lane4 (e : Fin 4) (d : Fin 64) : Fin 256 := ⟨64 * e.val + d.val, by omega⟩

/-! The symmetric int8 quantisation of one head's 64 entries. -/

/-- The largest magnitude. -/
def amax (x : Fin 64 → EReal) : EReal :=
  Finset.univ.fold max negInf fun d => (FloatOps.absf (F := Ideal) (φ := FTy.f32) (x d) : EReal)

/-- The scale: the largest magnitude over 127, or one for an all-zero head. -/
def qscale (x : Fin 64 → EReal) : EReal :=
  if 0 < amax x then Ideal.div (amax x) (Ideal.ofBits FTy.f32 0x42FE0000#32) else 1

/-- The entry over the scale, rounded and clipped to `[-127, 127]`. -/
def qclip (x : Fin 64 → EReal) (d : Fin 64) : EReal :=
  min (Ideal.ofBits FTy.f32 0x42FE0000#32) (max (Ideal.ofBits FTy.f32 0xC2FE0000#32)
    (Ideal.liftRound Ideal.roundHalfEven (Ideal.div (x d) (qscale x))))

/-- The int8 code. -/
def qcode (x : Fin 64 → EReal) (d : Fin 64) : BitVec 8 := Ideal.fptosi 8 (qclip x d)

/-- The value a code stands for. -/
def deq (c : BitVec 8) (s : EReal) : EReal := ((c.toInt : ℝ) : EReal) * s

theorem ofBits_127 : Ideal.ofBits FTy.f32 0x42FE0000#32 = ((127 : ℝ) : EReal) := by
  simp [Ideal.ofBits, Ideal.ieee, -EReal.coe_mul]; norm_num

theorem ofBits_neg127 : Ideal.ofBits FTy.f32 0xC2FE0000#32 = ((-127 : ℝ) : EReal) := by
  simp [Ideal.ofBits, Ideal.ieee, -EReal.coe_mul, -EReal.coe_neg]; norm_num

/-- A value in `[-127, 127]` converts to the same byte directly or by way of a 32-bit integer. -/
theorem fptosi_of_clip (x : EReal) (h1 : ((-127 : ℝ) : EReal) ≤ x) (h2 : x ≤ ((127 : ℝ) : EReal)) :
    (Ideal.fptosi 32 x).setWidth 8 = Ideal.fptosi 8 x := by
  induction x with
  | bot => exact absurd h1 (by simp)
  | top => exact absurd h2 (by simp)
  | coe r =>
    rw [EReal.coe_le_coe_iff] at h1 h2
    have hb : -127 ≤ (if 0 ≤ r then ⌊r⌋ else ⌈r⌉) ∧ (if 0 ≤ r then ⌊r⌋ else ⌈r⌉) ≤ 127 := by
      split_ifs with hr
      · refine ⟨Int.le_floor.mpr (by push_cast; linarith), ?_⟩
        have : (⌊r⌋ : ℝ) ≤ 127 := (Int.floor_le r).trans h2
        exact_mod_cast this
      · have : (-127 : ℝ) ≤ ⌈r⌉ := h1.trans (Int.le_ceil r)
        exact ⟨by exact_mod_cast this, Int.ceil_le.mpr (by push_cast; linarith)⟩
    show (BitVec.ofInt 32 (max _ (min _ (if 0 ≤ r then ⌊r⌋ else ⌈r⌉)))).setWidth 8
      = BitVec.ofInt 8 (max _ (min _ (if 0 ≤ r then ⌊r⌋ else ⌈r⌉)))
    generalize (if 0 ≤ r then ⌊r⌋ else ⌈r⌉) = z at hb
    have e1 : max (-((2 ^ (32 - 1) : Nat) : Int)) (min (((2 ^ (32 - 1) : Nat) : Int) - 1) z) = z := by
      norm_num; omega
    have e2 : max (-((2 ^ (8 - 1) : Nat) : Int)) (min (((2 ^ (8 - 1) : Nat) : Int) - 1) z) = z := by
      norm_num; omega
    rw [e1, e2]
    apply BitVec.eq_of_toNat_eq
    simp only [BitVec.toNat_setWidth, BitVec.toNat_ofInt]
    omega

theorem qclip_bounds (x : Fin 64 → EReal) (d : Fin 64) : ((-127 : ℝ) : EReal) ≤ qclip x d ∧ qclip x d ≤ ((127 : ℝ) : EReal) := by
  unfold qclip
  rw [ofBits_127, ofBits_neg127]
  exact ⟨le_min (EReal.coe_le_coe_iff.mpr (by norm_num)) (le_max_left _ _), min_le_left _ _⟩

theorem qcode_eq (x : Fin 64 → EReal) (d : Fin 64) : (Ideal.fptosi 32 (qclip x d)).setWidth 8 = qcode x d :=
  fptosi_of_clip _ (qclip_bounds x d).1 (qclip_bounds x d).2

/-- The final update with the single new token's score `s` and value `v`, and the normalisation. -/
def lastMax (m s : EReal) : EReal := max m s
def lastOut (m l a s v : EReal) : EReal :=
  Ideal.div (Ideal.exp (m - lastMax m s) * a + Ideal.exp (s - lastMax m s) * v)
    (Ideal.exp (m - lastMax m s) * l + Ideal.exp (s - lastMax m s))

end Cert.Spec
end
-- ==== Proof.Host.lean ====
/-
  What the region finds in the arrays the windows are cut from, as elements of the program's arguments: the
  block-diagonal queries, the queries, the new token's keys and values, and the transposed cache.
-/
module

public import proofs.«01_k».proof.Proof.Gen.KernelIdeal.Value
public import proofs.«01_k».proof.Proof.Spec
public import Idealize.ShloMosaic.Lib.Pointwise
public import Idealize.ShloMosaic.Lib.Claim

@[expose] public section

set_option maxRecDepth 16384

noncomputable section

namespace Cert.KernelIdeal.Host

open Idealize.ShloMosaic Idealize.ShloMosaic.TcCoe Idealize.SL.Sem
open Cert.KernelIdeal Cert.KernelIdeal.Gen Cert.Spec

variable (m : (ℓ : Loc nD τ sig) → Buf (Elt Ideal) ℓ) (c : Dev nD)

/-- One query: batch `b`, key head `h`, query `g` of the head's four. -/
def query (x : Vec Ideal S4x1x4096 .bf16) (b : Fin 4) (h : Fin 16) (g : Fin 4) : Fin 64 → EReal :=
  fun d => x (ix3 b 0 ⟨h.val * 256 + g.val * 64 + d.val, by omega⟩)

/-- The transposed key codes. -/
theorem v15_apply (b : Fin 4) (h : Fin 16) (d : Fin 64) (t : Fin 32768) :
    (V m c main_v15 : Vec Ideal S4x1024x32768 .i8) (ix3 b (lane h d) t)
      = (m ((c : Thread nD τ).loc main_arg3) : Vec Ideal S4x32768x16x64 .i8) (ix4 b t h d) := by
  entry_read
  pointwise
  exact congrArg₂ (fun y z => (m ((c : Thread nD τ).loc main_arg3) : Vec Ideal S4x32768x16x64 .i8) (ix4 b t y z))
    (Fin.ext (by show (64 * h.val + d.val) / 64 = h.val; omega))
    (Fin.ext (by show (64 * h.val + d.val) % 64 = d.val; omega))

/-- The transposed value codes. -/
theorem v17_apply (b : Fin 4) (h : Fin 16) (d : Fin 64) (t : Fin 32768) :
    (V m c main_v17 : Vec Ideal S4x1024x32768 .i8) (ix3 b (lane h d) t)
      = (m ((c : Thread nD τ).loc main_arg5) : Vec Ideal S4x32768x16x64 .i8) (ix4 b t h d) := by
  entry_read
  pointwise
  exact congrArg₂ (fun y z => (m ((c : Thread nD τ).loc main_arg5) : Vec Ideal S4x32768x16x64 .i8) (ix4 b t y z))
    (Fin.ext (by show (64 * h.val + d.val) / 64 = h.val; omega))
    (Fin.ext (by show (64 * h.val + d.val) % 64 = d.val; omega))

/-- The transposed key scales. -/
theorem v18_apply (b : Fin 4) (h : Fin 16) (t : Fin 32768) :
    (V m c main_v18 : Vec Ideal S4x16x32768 .f32) (ix3 b h t)
      = (m ((c : Thread nD τ).loc main_arg4) : Vec Ideal S4x32768x16 .f32) (ix3 b t h) := by
  entry_read
  pointwise

/-- The transposed value scales. -/
theorem v19_apply (b : Fin 4) (h : Fin 16) (t : Fin 32768) :
    (V m c main_v19 : Vec Ideal S4x16x32768 .f32) (ix3 b h t)
      = (m ((c : Thread nD τ).loc main_arg6) : Vec Ideal S4x32768x16 .f32) (ix3 b t h) := by
  entry_read
  pointwise

/-- The new token's key. -/
theorem v20_apply (b : Fin 4) (h : Fin 16) (d : Fin 64) :
    (V m c main_v20 : Vec Ideal S4x16x64 .bf16) (ix3 b h d)
      = (m ((c : Thread nD τ).loc main_arg1) : Vec Ideal S4x1x16x64 .bf16) (ix4 b 0 h d) := by
  entry_read
  pointwise

/-- The new token's value. -/
theorem v21_apply (b : Fin 4) (h : Fin 16) (d : Fin 64) :
    (V m c main_v21 : Vec Ideal S4x16x64 .bf16) (ix3 b h d)
      = (m ((c : Thread nD τ).loc main_arg2) : Vec Ideal S4x1x16x64 .bf16) (ix4 b 0 h d) := by
  entry_read
  pointwise

/-- The queries, one row each. -/
theorem v0_apply (b : Fin 4) (h : Fin 16) (g : Fin 4) (d : Fin 64) :
    (V m c main_v0 : Vec Ideal S4x64x64 .bf16) (ix3 b (row h g) d)
      = query (m ((c : Thread nD τ).loc main_arg0)) b h g d := by
  unfold query
  entry_read
  pointwise
  exact congrArg (fun z => (m ((c : Thread nD τ).loc main_arg0) : Vec Ideal S4x1x4096 .bf16) (ix3 b 0 z))
    (Fin.ext (by show (4 * h.val + g.val) * 64 + d.val = h.val * 256 + g.val * 64 + d.val; omega))

/-- The identity matrix, an entry: one on the diagonal, zero off it. -/
theorem eye (a e : Fin 4) :
    (FloatOps.uitofp (F := Ideal) FTy.bf16
        (IntOp.cmpi CmpIPredicate.eq (IntOp.addi (BitVec.ofNat 32 a.val) 0#32) (BitVec.ofNat 32 e.val)) : EReal)
      = if a = e then 1 else 0 := by
  have hb : IntOp.cmpi CmpIPredicate.eq (IntOp.addi (BitVec.ofNat 32 a.val) 0#32) (BitVec.ofNat 32 e.val)
      = if a = e then 1#1 else 0#1 := by
    revert a e; decide
  rw [hb]
  split_ifs
  · show (((1#1).toNat : ℝ) : EReal) = 1
    simp
  · show (((0#1).toNat : ℝ) : EReal) = 0
    simp

/-- The block-diagonal queries: rows of key head `a` within a group of four are zero outside head `a`'s lanes. -/
theorem v13_apply (b n a g e : Fin 4) (d : Fin 64) :
    (V m c main_v13 : Vec Ideal S4x4x16x256 .bf16) (ix4 b n (row4 a g) (lane4 e d))
      = if a = e then query (m ((c : Thread nD τ).loc main_arg0)) b (row4 n a) g d else 0 := by
  entry_read
  generalize hA : m ((c : Thread nD τ).loc main_arg0) = A
  change Vec Ideal S4x1x4096 .bf16 at A
  clear hA
  unfold query
  pointwise
  have ha : (4 * a.val + g.val) / 4 = a.val := by omega
  have he : (64 * e.val + d.val) / 64 = e.val := by omega
  simp only [ha, he, eye]
  by_cases hae : a = e
  · simp only [if_pos hae]
    refine (mul_one _).trans (congrArg (fun z => A (ix3 b 0 z)) (Fin.ext ?_))
    show n.val * 1024 + a.val * 256 + (4 * a.val + g.val) % 4 * 64 + (64 * e.val + d.val) % 64
      = (4 * n.val + a.val) * 256 + g.val * 64 + d.val
    omega
  · simp only [if_neg hae]
    exact mul_zero (M₀ := EReal) _

end Cert.KernelIdeal.Host
-- ==== Proof.Point.lean ====
/-
  What one grid point of the kernel leaves in the three carried buffers (the running maximum, the running sum, the
  accumulator) and, at the last point of a batch, in the five outputs — as the printed body's own payloads applied to
  the point's input blocks and to what the carried buffers held before it.
-/
module

public import proofs.«01_k».proof.Proof.Gen.KernelIdeal.Frame
public import Idealize.ShloMosaic.Lib.Pipeline.Value
public import Idealize.ShloMosaic.Lib.Pipeline.ValueKit.Basic
public import Idealize.ShloMosaic.Lib.Tactic

@[expose] public section

set_option maxRecDepth 16384

noncomputable section

namespace Cert.KernelIdeal.Point

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section Terms

variable (x0 : Vec F S1x4x16x256 .bf16) (x1 : Vec F S1x64x64 .bf16) (x2 x3 : Vec F S1x16x64 .bf16)
  (x4 : Vec F S1x1024x1024 .i8) (x5 : Vec F S1x16x1024 .f32) (x6 : Vec F S1x1024x1024 .i8) (x7 : Vec F S1x16x1024 .f32)
  (y0 y1 : Vec F S64x1 .f32) (y2 : Vec F S64x1024 .f32)

/-! The four loads of each of the streamed key blocks: key codes, key scales, block-diagonal queries. -/

def kb0 : Vec F S1x256x1024 .i8 := View.ld x4 (Rect.unit ![0, 0, 0] ![1, 256, 1024] inb_S1x1024x1024_S1x256x1024_0_0_0)
def sb0 : Vec F S1x4x1024 .f32 := View.ld x5 (Rect.unit ![0, 0, 0] ![1, 4, 1024] inb_S1x16x1024_S1x4x1024_0_0_0)
def qb0 : Vec F S1x1x16x256 .bf16 := View.ld x0 (Rect.unit ![0, 0, 0, 0] ![1, 1, 16, 256] inb_S1x4x16x256_S1x1x16x256_0_0_0_0)
def kb1 : Vec F S1x256x1024 .i8 := View.ld x4 (Rect.unit ![0, 256, 0] ![1, 256, 1024] inb_S1x1024x1024_S1x256x1024_0_256_0)
def sb1 : Vec F S1x4x1024 .f32 := View.ld x5 (Rect.unit ![0, 4, 0] ![1, 4, 1024] inb_S1x16x1024_S1x4x1024_0_4_0)
def qb1 : Vec F S1x1x16x256 .bf16 := View.ld x0 (Rect.unit ![0, 1, 0, 0] ![1, 1, 16, 256] inb_S1x4x16x256_S1x1x16x256_0_1_0_0)
def kb2 : Vec F S1x256x1024 .i8 := View.ld x4 (Rect.unit ![0, 512, 0] ![1, 256, 1024] inb_S1x1024x1024_S1x256x1024_0_512_0)
def sb2 : Vec F S1x4x1024 .f32 := View.ld x5 (Rect.unit ![0, 8, 0] ![1, 4, 1024] inb_S1x16x1024_S1x4x1024_0_8_0)
def qb2 : Vec F S1x1x16x256 .bf16 := View.ld x0 (Rect.unit ![0, 2, 0, 0] ![1, 1, 16, 256] inb_S1x4x16x256_S1x1x16x256_0_2_0_0)
def kb3 : Vec F S1x256x1024 .i8 := View.ld x4 (Rect.unit ![0, 768, 0] ![1, 256, 1024] inb_S1x1024x1024_S1x256x1024_0_768_0)
def sb3 : Vec F S1x4x1024 .f32 := View.ld x5 (Rect.unit ![0, 12, 0] ![1, 4, 1024] inb_S1x16x1024_S1x4x1024_0_12_0)
def qb3 : Vec F S1x1x16x256 .bf16 := View.ld x0 (Rect.unit ![0, 3, 0, 0] ![1, 1, 16, 256] inb_S1x4x16x256_S1x1x16x256_0_3_0_0)

/-- The scores' rows of heads 0 to 3, unscaled. -/
def part0 : Vec F S16x1024 .f32 := k0_pay35 (kb0 x4) (sb0 x5) (qb0 x0)
/-- The scores' rows of heads 4 to 7, unscaled. -/
def part1 : Vec F S16x1024 .f32 := k0_pay41 (k0_pay36 (kb1 x4)) (k0_pay37 (sb1 x5)) (k0_pay38 (sb1 x5)) (k0_pay39 (sb1 x5)) (k0_pay40 (sb1 x5)) (qb1 x0)
/-- The scores' rows of heads 8 to 11, unscaled. -/
def part2 : Vec F S16x1024 .f32 := k0_pay42 (kb2 x4) (sb2 x5) (qb2 x0)

/-- The scaled scores of the block. -/
def scores : Vec F S64x1024 .f32 := k0_pay45 (part0 x0 x4 x5) (part1 x0 x4 x5) (part2 x0 x4 x5) (k0_pay43 (kb3 x4)) (k0_pay44 (sb3 x5)) (qb3 x0)
/-- The running maximum after the block. -/
def maxStep : Vec F S64x1 .f32 := k0_pay50 (part0 x0 x4 x5) (part1 x0 x4 x5) (part2 x0 x4 x5) (k0_pay43 (kb3 x4)) (k0_pay44 (sb3 x5)) (qb3 x0) y0
/-- The factor that brings the old sum and accumulator to the new maximum. -/
def alphaStep : Vec F S64x1 .f32 := k0_pay47 (part0 x0 x4 x5) (part1 x0 x4 x5) (part2 x0 x4 x5) (k0_pay43 (kb3 x4)) (k0_pay44 (sb3 x5)) (qb3 x0) y0
/-- The block's weights. -/
def probStep : Vec F S64x1024 .f32 := k0_pay48 (part0 x0 x4 x5) (part1 x0 x4 x5) (part2 x0 x4 x5) (k0_pay43 (kb3 x4)) (k0_pay44 (sb3 x5)) (qb3 x0) y0
/-- The running sum after the block. -/
def sumStep : Vec F S64x1 .f32 := k0_pay49 (part0 x0 x4 x5) (part1 x0 x4 x5) (part2 x0 x4 x5) (k0_pay43 (kb3 x4)) (k0_pay44 (sb3 x5)) (qb3 x0) y0 y1
/-- The accumulator after the block. -/
def accStep : Vec F S64x1024 .f32 := k0_pay1 (alphaStep x0 x4 x5 y0) (probStep x0 x4 x5 y0) (k0_pay51 x7) (k0_pay52 x6) y2

/-! The outputs, from the new token and the carried buffers' final contents. -/

def outKC : Vec F S1x16x64 .i8 := k0_pay9 (k0_pay5 x2)
def outKS : Vec F S1x16x1 .f32 := k0_pay11 (k0_pay4 x2)
def outVC : Vec F S1x16x64 .i8 := k0_pay10 (k0_pay8 x3)
def outVS : Vec F S1x16x1 .f32 := k0_pay12 (k0_pay7 x3)
/-- The attention output of the batch. -/
def outY : Vec F S1x64x64 .bf16 :=
  k0_pay2 (k0_pay20 (k0_pay14 (k0_pay7 x3) (k0_pay8 x3)) k0_pay15 k0_pay16 k0_pay17 k0_pay18)
    (k0_pay23 (k0_pay13 (k0_pay4 x2) (k0_pay5 x2)) k0_pay15 k0_pay16 k0_pay17 k0_pay18 x1 y0)
    (k0_pay24 (k0_pay13 (k0_pay4 x2) (k0_pay5 x2)) k0_pay15 k0_pay16 k0_pay17 k0_pay18 x1 y0)
    (k0_pay25 (k0_pay13 (k0_pay4 x2) (k0_pay5 x2)) k0_pay15 k0_pay16 k0_pay17 k0_pay18 x1 y0 y1)
    y2 (k0_pay29 (iota .tc S64x64 32 [0] iota_S64x64_d0_w32) 4#32 k0_pay27 k0_pay28 0#32)
    (k0_pay30 y2 k0_pay26 (iota .tc S64x64 32 [0] iota_S64x64_d0_w32) 4#32 k0_pay27 k0_pay28 0#32) (k0_pay31)

end Terms

section Cases

variable (c : Dev nD) (i : grid0.Coords)
  (a2 : Memref sig .tc .vmem S1x4x16x256 .bf16) (h2 : a2.IsWhole) (a3 : Memref sig .tc .vmem S1x64x64 .bf16) (h3 : a3.IsWhole)
  (a4 : Memref sig .tc .vmem S1x16x64 .bf16) (h4 : a4.IsWhole) (a5 : Memref sig .tc .vmem S1x16x64 .bf16) (h5 : a5.IsWhole)
  (a6 : Memref sig .tc .vmem S1x1024x1024 .i8) (h6 : a6.IsWhole) (a7 : Memref sig .tc .vmem S1x16x1024 .f32) (h7 : a7.IsWhole)
  (a8 : Memref sig .tc .vmem S1x1024x1024 .i8) (h8 : a8.IsWhole) (a9 : Memref sig .tc .vmem S1x16x1024 .f32) (h9 : a9.IsWhole)
  (a10 : Memref sig .tc .vmem S1x64x64 .bf16) (h10 : a10.IsWhole) (a11 : Memref sig .tc .vmem S1x16x64 .i8) (h11 : a11.IsWhole)
  (a12 : Memref sig .tc .vmem S1x16x1 .f32) (h12 : a12.IsWhole) (a13 : Memref sig .tc .vmem S1x16x64 .i8) (h13 : a13.IsWhole)
  (a14 : Memref sig .tc .vmem S1x16x1 .f32) (h14 : a14.IsWhole) (a15 : Memref sig .tc .vmem S64x1 .f32) (h15 : a15.IsWhole)
  (a16 : Memref sig .tc .vmem S64x1 .f32) (h16 : a16.IsWhole) (a17 : Memref sig .tc .vmem S64x1024 .f32) (h17 : a17.IsWhole)
  (x0 : Vec F S1x4x16x256 .bf16) (x1 : Vec F S1x64x64 .bf16) (x2 x3 : Vec F S1x16x64 .bf16)
  (x4 : Vec F S1x1024x1024 .i8) (x5 : Vec F S1x16x1024 .f32) (x6 : Vec F S1x1024x1024 .i8) (x7 : Vec F S1x16x1024 .f32)
  (y0 y1 : Vec F S64x1 .f32) (y2 : Vec F S64x1024 .f32)

theorem max_A (hc0 : cond0_0 i) (hc1 : ¬cond0_1 i) :
    sout0_A_0 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = maxStep x0 x4 x5 k0_pay32 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S64x1) hz2]
  simp only [View.readCov_unit_zero (S := S64x1) _ hz2, View.readCov_unit_zero (S := S64x1024) _ hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem sum_A (hc0 : cond0_0 i) (hc1 : ¬cond0_1 i) :
    sout0_A_1 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = sumStep x0 x4 x5 k0_pay32 k0_pay33 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S64x1) hz2]
  simp only [View.readCov_unit_zero (S := S64x1) _ hz2, View.readCov_unit_zero (S := S64x1024) _ hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem acc_A (hc0 : cond0_0 i) (hc1 : ¬cond0_1 i) :
    sout0_A_2 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 = accStep x0 x4 x5 x6 x7 k0_pay32 k0_pay34 := by
  unfold sout0_A_2
  rw [View.read_writes_eq_canon _ _ _ (scover0_A_2 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)]
  unfold kernelRun0_A
  dsimp only
  sl_unfold_words
  rw [View.canon_cons_unit_zero (S := S64x1024) hz2]
  simp only [View.readCov_unit_zero (S := S64x1) _ hz2, View.readCov_unit_zero (S := S64x1024) _ hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem max_B (hc0 : ¬cond0_0 i) (hc1 : ¬cond0_1 i) :
    sout0_B_0 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = maxStep x0 x4 x5 y0 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_B
  dsimp only
  sl_unfold_words
  rw [View.canon_unit_zero (S := S64x1) hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem sum_B (hc0 : ¬cond0_0 i) (hc1 : ¬cond0_1 i) :
    sout0_B_1 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = sumStep x0 x4 x5 y0 y1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_B
  dsimp only
  sl_unfold_words
  rw [View.canon_unit_zero (S := S64x1) hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem acc_B (hc0 : ¬cond0_0 i) (hc1 : ¬cond0_1 i) :
    sout0_B_2 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = accStep x0 x4 x5 x6 x7 y0 y2 := by
  unfold sout0_B_2
  rw [View.read_writes_eq_canon _ _ _ (scover0_B_2 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_B
  dsimp only
  sl_unfold_words
  rw [View.canon_unit_zero (S := S64x1024) hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem max_C (hc0 : ¬cond0_0 i) (hc1 : cond0_1 i) :
    sout0_C_0 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = maxStep x0 x4 x5 y0 := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_C
  dsimp only
  sl_unfold_words
  rw [View.canon_unit_zero (S := S64x1) hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem sum_C (hc0 : ¬cond0_0 i) (hc1 : cond0_1 i) :
    sout0_C_1 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = sumStep x0 x4 x5 y0 y1 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_C
  dsimp only
  sl_unfold_words
  rw [View.canon_unit_zero (S := S64x1) hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem acc_C (hc0 : ¬cond0_0 i) (hc1 : cond0_1 i) :
    sout0_C_2 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = accStep x0 x4 x5 x6 x7 y0 y2 := by
  unfold sout0_C_2
  rw [View.read_writes_eq_canon _ _ _ (scover0_C_2 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_C
  dsimp only
  sl_unfold_words
  rw [View.canon_unit_zero (S := S64x1024) hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem y_C (hc0 : ¬cond0_0 i) (hc1 : cond0_1 i) :
    out0_C_8 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = outY x1 x2 x3 (maxStep x0 x4 x5 y0) (sumStep x0 x4 x5 y0 y1) (accStep x0 x4 x5 x6 x7 y0 y2) := by
  unfold out0_C_8
  rw [View.read_writes_eq_canon _ _ _ (cover0_C_8 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_C
  dsimp only
  sl_unfold_words
  rw [View.canon_unit_zero (S := S1x64x64) hz3]
  simp only [View.readCov_unit_zero (S := S64x1) _ hz2, View.readCov_unit_zero (S := S64x1024) _ hz2]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem kc_C (hc0 : ¬cond0_0 i) (hc1 : cond0_1 i) :
    out0_C_9 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = outKC x2 := by
  unfold out0_C_9
  rw [View.read_writes_eq_canon _ _ _ (cover0_C_9 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_C
  dsimp only
  sl_unfold_words
  rw [View.canon_unit_zero (S := S1x16x64) hz3]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem ks_C (hc0 : ¬cond0_0 i) (hc1 : cond0_1 i) :
    out0_C_10 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = outKS x2 := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_C
  dsimp only
  sl_unfold_words
  rw [View.canon_unit_zero (S := S1x16x1) hz3]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem vc_C (hc0 : ¬cond0_0 i) (hc1 : cond0_1 i) :
    out0_C_11 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = outVC x3 := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_C
  dsimp only
  sl_unfold_words
  rw [View.canon_unit_zero (S := S1x16x64) hz3]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

theorem vs_C (hc0 : ¬cond0_0 i) (hc1 : cond0_1 i) :
    out0_C_12 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2 = outVS x3 := by
  unfold out0_C_12
  rw [View.read_writes_eq_canon _ _ _ (cover0_C_12 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 y0 y1 y2)]
  unfold kernelRun0_C
  dsimp only
  sl_unfold_words
  rw [View.canon_unit_zero (S := S1x16x1) hz3]
  simp only [View.readAt_eq_ld, h2.read_unread, h3.read_unread, h4.read_unread, h5.read_unread, h6.read_unread, h7.read_unread,
    h8.read_unread, h9.read_unread, h15.read_unread, h16.read_unread, h17.read_unread, View.ld_unit_zero (S := S64x1) hz2,
    View.ld_unit_zero (S := S64x1024) hz2, View.ld_unit_zero (S := S1x1024x1024) hz3, View.ld_unit_zero (S := S1x16x1024) hz3,
    View.ld_unit_zero (S := S1x16x64) hz3, View.ld_unit_zero (S := S1x64x64) hz3]
  rfl

end Cases
end Cert.KernelIdeal.Point
end
-- ==== Proof.Block.lean ====
/-
  One grid point's arithmetic on extended reals, read at an index: the scores of a block, the new running maximum,
  the new running sum and the new accumulator.
-/
module

public import proofs.«01_k».proof.Proof.Point
public import proofs.«01_k».proof.Proof.Spec
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Point Cert.Spec

/-- Sixteen rows of unscaled scores: a sum over four heads and 64 dimensions. -/
theorem part_apply (a : Vec Ideal S1x256x1024 .i8) (b : Vec Ideal S1x4x1024 .f32) (q : Vec Ideal S1x1x16x256 .bf16)
    (r : Fin 16) (t : Fin 1024) :
    k0_pay35 (F := Ideal) a b q (ix2 r t)
      = ∑ e : Fin 4, ∑ d : Fin 64, q (ix4 0 0 r (lane4 e d))
          * (FloatOps.sitofp (F := Ideal) FTy.bf16 (a (ix3 0 (lane4 e d) t)) * b (ix3 0 e t) : EReal) := by
  pointwise [k0_pay35]
  rw [sum256]
  refine Finset.sum_congr rfl fun e _ => Finset.sum_congr rfl fun d _ => ?_
  dsimp only
  congr 2
  split_ifs <;> refine congrArg (fun z => b (ix3 0 z t)) (Fin.ext ?_) <;> simp <;> omega

/-- The sixteen rows when the queries are block-diagonal: only the row's own head counts. -/
theorem part_diag (a : Vec Ideal S1x256x1024 .i8) (b : Vec Ideal S1x4x1024 .f32) (q : Vec Ideal S1x1x16x256 .bf16)
    (r : Fin 16) (t : Fin 1024) (h : Fin 4) (Q : Fin 64 → EReal)
    (hq : ∀ e d, q (ix4 0 0 r (lane4 e d)) = if h = e then Q d else 0) :
    k0_pay35 (F := Ideal) a b q (ix2 r t)
      = ∑ d : Fin 64, Q d * (FloatOps.sitofp (F := Ideal) FTy.bf16 (a (ix3 0 (lane4 h d) t)) * b (ix3 0 h t) : EReal) := by
  rw [part_apply, Finset.sum_eq_single h]
  · refine Finset.sum_congr rfl fun d _ => ?_
    rw [hq, if_pos rfl]
  · intro e _ he
    refine Finset.sum_eq_zero fun d _ => ?_
    rw [hq, if_neg (Ne.symm he)]
    exact zero_mul _
  · intro hh
    exact absurd (Finset.mem_univ h) hh

/-- A choice equals what both of its branches equal. -/
theorem ite_step {α : Sort*} {c : Prop} [Decidable c] {a : c → α} {e : ¬c → α} {b : α} (h : ∀ hc, a hc = b) (h' : ∀ hc, e hc = b) :
    dite c a e = b := by
  by_cases hc : c
  · rw [dif_pos hc]; exact h hc
  · rw [dif_neg hc]; exact h' hc

/-- Sixteen pieces of 64 laid end to end, read at a position. -/
theorem ladder16 (f : Fin 16 → EReal) (v : Nat) (h : Fin 16) (d : Fin 64) (hv : v = 64 * h.val + d.val) :
    (if _ : v < 64 then f ⟨0, by omega⟩ else if _ : v - 64 < 64 then f ⟨1, by omega⟩ else if _ : v - 64 - 64 < 64 then f ⟨2, by omega⟩ else if _ : v - 64 - 64 - 64 < 64 then f ⟨3, by omega⟩ else if _ : v - 64 - 64 - 64 - 64 < 64 then f ⟨4, by omega⟩ else if _ : v - 64 - 64 - 64 - 64 - 64 < 64 then f ⟨5, by omega⟩ else if _ : v - 64 - 64 - 64 - 64 - 64 - 64 < 64 then f ⟨6, by omega⟩ else if _ : v - 64 - 64 - 64 - 64 - 64 - 64 - 64 < 64 then f ⟨7, by omega⟩ else if _ : v - 64 - 64 - 64 - 64 - 64 - 64 - 64 - 64 < 64 then f ⟨8, by omega⟩ else if _ : v - 64 - 64 - 64 - 64 - 64 - 64 - 64 - 64 - 64 < 64 then f ⟨9, by omega⟩ else if _ : v - 64 - 64 - 64 - 64 - 64 - 64 - 64 - 64 - 64 - 64 < 64 then f ⟨10, by omega⟩ else if _ : v - 64 - 64 - 64 - 64 - 64 - 64 - 64 - 64 - 64 - 64 - 64 < 64 then f ⟨11, by omega⟩ else if _ : v - 64 - 64 - 64 - 64 - 64 - 64 - 64 - 64 - 64 - 64 - 64 - 64 < 64 then f ⟨12, by omega⟩ else if _ : v - 64 - 64 - 64 - 64 - 64 - 64 - 64 - 64 - 64 - 64 - 64 - 64 - 64 < 64 then f ⟨13, by omega⟩ else if _ : v - 64 - 64 - 64 - 64 - 64 - 64 - 64 - 64 - 64 - 64 - 64 - 64 - 64 - 64 < 64 then f ⟨14, by omega⟩ else f ⟨15, by omega⟩) = f h := by
  iterate 15 refine ite_step (fun _ => congrArg f (Fin.ext (by dsimp only; omega))) (fun _ => ?_)
  exact congrArg f (Fin.ext (by dsimp only; omega))

/-- Four pieces of sixteen laid end to end, read at a position. -/
theorem ladder4 (f0 f1 f2 f3 : Fin 16 → EReal) (v : Nat) (n : Fin 4) (r : Fin 16) (hv : v = 16 * n.val + r.val) :
    (if h : v < 16 then f0 ⟨v, h⟩ else if h : v - 16 < 16 then f1 ⟨v - 16, h⟩ else if h : v - 16 - 16 < 16 then f2 ⟨v - 16 - 16, h⟩
      else f3 ⟨v - 16 - 16 - 16, by omega⟩) = (![f0, f1, f2, f3] n) r := by
  have hn : n = 0 ∨ n = 1 ∨ n = 2 ∨ n = 3 := by omega
  rcases hn with rfl | rfl | rfl | rfl
  · have e : v = 16 * 0 + r.val := hv
    rw [dif_pos (by omega)]
    exact congrArg f0 (Fin.ext (by dsimp only; omega))
  · have e : v = 16 * 1 + r.val := hv
    rw [dif_neg (by omega), dif_pos (by omega)]
    exact congrArg f1 (Fin.ext (by dsimp only; omega))
  · have e : v = 16 * 2 + r.val := hv
    rw [dif_neg (by omega), dif_neg (by omega), dif_pos (by omega)]
    exact congrArg f2 (Fin.ext (by dsimp only; omega))
  · have e : v = 16 * 3 + r.val := hv
    rw [dif_neg (by omega), dif_neg (by omega), dif_neg (by omega)]
    exact congrArg f3 (Fin.ext (by dsimp only; omega))

section Steps

variable (x0 : Vec Ideal S1x4x16x256 .bf16) (x4 : Vec Ideal S1x1024x1024 .i8) (x5 : Vec Ideal S1x16x1024 .f32)
  (x6 : Vec Ideal S1x1024x1024 .i8) (x7 : Vec Ideal S1x16x1024 .f32)
  (y0 y1 : Vec Ideal S64x1 .f32) (y2 : Vec Ideal S64x1024 .f32)

/-- The dequantised key entry of head `h`, token `t`, dimension `d` of a block. -/
def key (h : Fin 16) (t : Fin 1024) (d : Fin 64) : EReal :=
  (FloatOps.sitofp (F := Ideal) FTy.bf16 (x4 (ix3 0 (lane h d) t)) * x5 (ix3 0 h t) : EReal)

theorem part1_eq : part1 (F := Ideal) x0 x4 x5 = k0_pay35 (kb1 x4) (sb1 x5) (qb1 x0) := rfl
theorem part2_eq : part2 (F := Ideal) x0 x4 x5 = k0_pay35 (kb2 x4) (sb2 x5) (qb2 x0) := rfl

theorem scores_eq : scores (F := Ideal) x0 x4 x5
    = mulf (concatenate S64x1024 0 [⟨S16x1024, k0_pay35 (kb0 x4) (sb0 x5) (qb0 x0)⟩, ⟨S16x1024, k0_pay35 (kb1 x4) (sb1 x5) (qb1 x0)⟩,
        ⟨S16x1024, k0_pay35 (kb2 x4) (sb2 x5) (qb2 x0)⟩, ⟨S16x1024, k0_pay35 (kb3 x4) (sb3 x5) (qb3 x0)⟩]
        concatenates_S16x1024_S16x1024_S16x1024_S16x1024_S64x1024_d0)
      (broadcast S64x1024 (Scalar.ofBits .f32 0x3E000000#32)) := rfl

theorem kb0_apply (k : Fin 256) (t : Fin 1024) : kb0 x4 (ix3 0 k t) = x4 (ix3 0 ⟨k.val, by omega⟩ t) := by
  pointwise [kb0]
theorem kb1_apply (k : Fin 256) (t : Fin 1024) : kb1 x4 (ix3 0 k t) = x4 (ix3 0 ⟨256 + k.val, by omega⟩ t) := by
  pointwise [kb1]
theorem kb2_apply (k : Fin 256) (t : Fin 1024) : kb2 x4 (ix3 0 k t) = x4 (ix3 0 ⟨512 + k.val, by omega⟩ t) := by
  pointwise [kb2]
theorem kb3_apply (k : Fin 256) (t : Fin 1024) : kb3 x4 (ix3 0 k t) = x4 (ix3 0 ⟨768 + k.val, by omega⟩ t) := by
  pointwise [kb3]
theorem sb0_apply (k : Fin 4) (t : Fin 1024) : sb0 x5 (ix3 0 k t) = x5 (ix3 0 ⟨k.val, by omega⟩ t) := by
  pointwise [sb0]
theorem sb1_apply (k : Fin 4) (t : Fin 1024) : sb1 x5 (ix3 0 k t) = x5 (ix3 0 ⟨4 + k.val, by omega⟩ t) := by
  pointwise [sb1]
theorem sb2_apply (k : Fin 4) (t : Fin 1024) : sb2 x5 (ix3 0 k t) = x5 (ix3 0 ⟨8 + k.val, by omega⟩ t) := by
  pointwise [sb2]
theorem sb3_apply (k : Fin 4) (t : Fin 1024) : sb3 x5 (ix3 0 k t) = x5 (ix3 0 ⟨12 + k.val, by omega⟩ t) := by
  pointwise [sb3]
theorem qb0_apply (r : Fin 16) (k : Fin 256) : qb0 x0 (ix4 0 0 r k) = x0 (ix4 0 0 r k) := by
  pointwise [qb0]
theorem qb1_apply (r : Fin 16) (k : Fin 256) : qb1 x0 (ix4 0 0 r k) = x0 (ix4 0 1 r k) := by
  pointwise [qb1]
theorem qb2_apply (r : Fin 16) (k : Fin 256) : qb2 x0 (ix4 0 0 r k) = x0 (ix4 0 2 r k) := by
  pointwise [qb2]
theorem qb3_apply (r : Fin 16) (k : Fin 256) : qb3 x0 (ix4 0 0 r k) = x0 (ix4 0 3 r k) := by
  pointwise [qb3]

/-- What the block-diagonal query block holds: head `h`'s queries in its own 64 lanes, zero elsewhere. -/
def Diag (Q : Fin 16 → Fin 4 → Fin 64 → EReal) : Prop :=
  ∀ (n a g e : Fin 4) (d : Fin 64),
    x0 (ix4 0 n (row4 a g) (lane4 e d)) = if a = e then Q (row4 n a) g d else 0

theorem rows0 (Q : Fin 16 → Fin 4 → Fin 64 → EReal) (hQ : Diag x0 Q) (a g : Fin 4) (t : Fin 1024) :
    k0_pay35 (F := Ideal) (kb0 x4) (sb0 x5) (qb0 x0) (ix2 (row4 a g) t)
      = ∑ d : Fin 64, Q (row4 0 a) g d * key x4 x5 (row4 0 a) t d := by
  rw [part_diag _ _ _ _ _ a (Q (row4 0 a) g)]
  · refine Finset.sum_congr rfl fun d _ => ?_
    rw [kb0_apply, sb0_apply]
    unfold key
    refine congrArg (Q (row4 0 a) g d * ·) (congrArg₂ (fun (z : Fin 1024) (w : Fin 16) =>
      (FloatOps.sitofp (F := Ideal) FTy.bf16 (x4 (ix3 0 z t)) * x5 (ix3 0 w t) : EReal)) (Fin.ext ?_) (Fin.ext ?_)) <;> simp <;> omega
  · intro e d
    rw [qb0_apply, ← hQ 0 a g e d]

theorem rows1 (Q : Fin 16 → Fin 4 → Fin 64 → EReal) (hQ : Diag x0 Q) (a g : Fin 4) (t : Fin 1024) :
    k0_pay35 (F := Ideal) (kb1 x4) (sb1 x5) (qb1 x0) (ix2 (row4 a g) t)
      = ∑ d : Fin 64, Q (row4 1 a) g d * key x4 x5 (row4 1 a) t d := by
  rw [part_diag _ _ _ _ _ a (Q (row4 1 a) g)]
  · refine Finset.sum_congr rfl fun d _ => ?_
    rw [kb1_apply, sb1_apply]
    unfold key
    refine congrArg (Q (row4 1 a) g d * ·) (congrArg₂ (fun (z : Fin 1024) (w : Fin 16) =>
      (FloatOps.sitofp (F := Ideal) FTy.bf16 (x4 (ix3 0 z t)) * x5 (ix3 0 w t) : EReal)) (Fin.ext ?_) (Fin.ext ?_)) <;> simp <;> omega
  · intro e d
    rw [qb1_apply, ← hQ 1 a g e d]

theorem rows2 (Q : Fin 16 → Fin 4 → Fin 64 → EReal) (hQ : Diag x0 Q) (a g : Fin 4) (t : Fin 1024) :
    k0_pay35 (F := Ideal) (kb2 x4) (sb2 x5) (qb2 x0) (ix2 (row4 a g) t)
      = ∑ d : Fin 64, Q (row4 2 a) g d * key x4 x5 (row4 2 a) t d := by
  rw [part_diag _ _ _ _ _ a (Q (row4 2 a) g)]
  · refine Finset.sum_congr rfl fun d _ => ?_
    rw [kb2_apply, sb2_apply]
    unfold key
    refine congrArg (Q (row4 2 a) g d * ·) (congrArg₂ (fun (z : Fin 1024) (w : Fin 16) =>
      (FloatOps.sitofp (F := Ideal) FTy.bf16 (x4 (ix3 0 z t)) * x5 (ix3 0 w t) : EReal)) (Fin.ext ?_) (Fin.ext ?_)) <;> simp <;> omega
  · intro e d
    rw [qb2_apply, ← hQ 2 a g e d]

theorem rows3 (Q : Fin 16 → Fin 4 → Fin 64 → EReal) (hQ : Diag x0 Q) (a g : Fin 4) (t : Fin 1024) :
    k0_pay35 (F := Ideal) (kb3 x4) (sb3 x5) (qb3 x0) (ix2 (row4 a g) t)
      = ∑ d : Fin 64, Q (row4 3 a) g d * key x4 x5 (row4 3 a) t d := by
  rw [part_diag _ _ _ _ _ a (Q (row4 3 a) g)]
  · refine Finset.sum_congr rfl fun d _ => ?_
    rw [kb3_apply, sb3_apply]
    unfold key
    refine congrArg (Q (row4 3 a) g d * ·) (congrArg₂ (fun (z : Fin 1024) (w : Fin 16) =>
      (FloatOps.sitofp (F := Ideal) FTy.bf16 (x4 (ix3 0 z t)) * x5 (ix3 0 w t) : EReal)) (Fin.ext ?_) (Fin.ext ?_)) <;> simp <;> omega
  · intro e d
    rw [qb3_apply, ← hQ 3 a g e d]

/-- The block's scaled scores. -/
theorem scores_apply (Q : Fin 16 → Fin 4 → Fin 64 → EReal) (hQ : Diag x0 Q) (h : Fin 16) (g : Fin 4) (t : Fin 1024) :
    scores (F := Ideal) x0 x4 x5 (ix2 (row h g) t) = score (Q h g) (key x4 x5 h t) := by
  obtain ⟨n, a, rfl⟩ : ∃ n a : Fin 4, h = row4 n a := ⟨⟨h.val / 4, by omega⟩, ⟨h.val % 4, by omega⟩, Fin.ext (by simp; omega)⟩
  rw [scores_eq]
  pointwise
  unfold score scale
  congr 1
  refine (ladder4 (fun z => k0_pay35 (F := Ideal) (kb0 x4) (sb0 x5) (qb0 x0) (ix2 z t))
    (fun z => k0_pay35 (F := Ideal) (kb1 x4) (sb1 x5) (qb1 x0) (ix2 z t))
    (fun z => k0_pay35 (F := Ideal) (kb2 x4) (sb2 x5) (qb2 x0) (ix2 z t))
    (fun z => k0_pay35 (F := Ideal) (kb3 x4) (sb3 x5) (qb3 x0) (ix2 z t)) _ n (row4 a g) ?_).trans ?_
  · dsimp only
    omega
  have hn : n = 0 ∨ n = 1 ∨ n = 2 ∨ n = 3 := by omega
  rcases hn with rfl | rfl | rfl | rfl
  · exact rows0 x0 x4 x5 Q hQ a g t
  · exact rows1 x0 x4 x5 Q hQ a g t
  · exact rows2 x0 x4 x5 Q hQ a g t
  · exact rows3 x0 x4 x5 Q hQ a g t

theorem alphaStep_apply (r : Fin 64) :
    alphaStep (F := Ideal) x0 x4 x5 y0 (ix2 r 0) = alpha (y0 (ix2 r 0)) (fun t => scores (F := Ideal) x0 x4 x5 (ix2 r t)) := by
  pointwise [alphaStep, k0_pay47, k0_pay46, alpha, newMax]
  rfl

theorem maxStep_apply (r : Fin 64) :
    maxStep (F := Ideal) x0 x4 x5 y0 (ix2 r 0) = newMax (y0 (ix2 r 0)) (fun t => scores (F := Ideal) x0 x4 x5 (ix2 r t)) := by
  pointwise [maxStep, k0_pay50, k0_pay46, newMax]
  rfl

theorem probStep_apply (r : Fin 64) (t : Fin 1024) :
    probStep (F := Ideal) x0 x4 x5 y0 (ix2 r t) = prob (y0 (ix2 r 0)) (fun t => scores (F := Ideal) x0 x4 x5 (ix2 r t)) t := by
  pointwise [probStep, k0_pay48, k0_pay46, prob, newMax]
  rfl

theorem sumStep_eq (r : Fin 64) :
    sumStep (F := Ideal) x0 x4 x5 y0 y1 (ix2 r 0)
      = (alphaStep (F := Ideal) x0 x4 x5 y0 (ix2 r 0) * y1 (ix2 r 0) + ∑ t : Fin 1024, probStep (F := Ideal) x0 x4 x5 y0 (ix2 r t) : EReal) := by
  pointwise [sumStep, k0_pay49]
  rfl

theorem sumStep_apply (r : Fin 64) :
    sumStep (F := Ideal) x0 x4 x5 y0 y1 (ix2 r 0)
      = newSum (y0 (ix2 r 0)) (y1 (ix2 r 0)) (fun t => scores (F := Ideal) x0 x4 x5 (ix2 r t)) := by
  rw [sumStep_eq, alphaStep_apply]
  simp only [probStep_apply]
  rfl

/-- The value scales, each head's row repeated over its 64 lanes. -/
theorem wide_apply (h : Fin 16) (d : Fin 64) (t : Fin 1024) : k0_pay51 x7 (ix2 (lane h d) t) = x7 (ix3 0 h t) := by
  pointwise [k0_pay51]
  exact ladder16 (fun z => x7 (ix3 0 z t)) _ h d rfl

theorem accStep_eq (r : Fin 64) (h : Fin 16) (d : Fin 64) :
    accStep (F := Ideal) x0 x4 x5 x6 x7 y0 y2 (ix2 r (lane h d))
      = newAcc (y0 (ix2 r 0)) (y2 (ix2 r (lane h d))) (fun t => scores (F := Ideal) x0 x4 x5 (ix2 r t)) (fun t => key x6 x7 h t d) := by
  pointwise [accStep, k0_pay1, k0_pay52]
  simp only [probStep_apply, alphaStep_apply, wide_apply]
  rfl

end Steps
end Cert.KernelIdeal.Block
end
-- ==== Proof.Blocks.lean ====
/-
  The window's blocks at grid point `32 b + j`, as elements of the program's arguments: batch `b`'s queries and new
  token, and positions `1024 j` to `1024 j + 1023` of the cache.
-/
module

public import proofs.«01_k».proof.Proof.Host
public import proofs.«01_k».proof.Proof.Block

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Host Cert.Spec

variable (m : (ℓ : Loc nD τ sig) → Buf (Elt Ideal) ℓ) (c : Dev nD)

/-- Position `t` of block `j` of the cache. -/
def tok (j : ℕ) (hj : j < 32) (t : Fin 1024) : Fin 32768 := ⟨1024 * j + t.val, by omega⟩

/-- Window 0's block index at a point. -/
theorem idx0 : ∀ t : Fin cfg0.N, win0_0.index t (0 : Fin 4) = t.val / 32 ∧ win0_0.index t (1 : Fin 4) = 0 ∧ win0_0.index t (2 : Fin 4) = 0 ∧ win0_0.index t (3 : Fin 4) = 0 :=
  (by decide +kernel : ∀ t : Fin grid0.N, _)

/-- Window 1's block index at a point. -/
theorem idx1 : ∀ t : Fin cfg0.N, win0_1.index t (0 : Fin 3) = t.val / 32 ∧ win0_1.index t (1 : Fin 3) = 0 ∧ win0_1.index t (2 : Fin 3) = 0 :=
  (by decide +kernel : ∀ t : Fin grid0.N, _)

/-- Window 2's block index at a point. -/
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, _)

/-- Window 3's block index at a point. -/
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, _)

/-- Window 4's block index at a point. -/
theorem idx4 : ∀ t : Fin cfg0.N, win0_4.index t (0 : Fin 3) = t.val / 32 ∧ win0_4.index t (1 : Fin 3) = 0 ∧ win0_4.index t (2 : Fin 3) = t.val % 32 :=
  (by decide +kernel : ∀ t : Fin grid0.N, _)

/-- Window 5's block index at a point. -/
theorem idx5 : ∀ t : Fin cfg0.N, win0_5.index t (0 : Fin 3) = t.val / 32 ∧ win0_5.index t (1 : Fin 3) = 0 ∧ win0_5.index t (2 : Fin 3) = t.val % 32 :=
  (by decide +kernel : ∀ t : Fin grid0.N, _)

/-- Window 6's block index at a point. -/
theorem idx6 : ∀ t : Fin cfg0.N, win0_6.index t (0 : Fin 3) = t.val / 32 ∧ win0_6.index t (1 : Fin 3) = 0 ∧ win0_6.index t (2 : Fin 3) = t.val % 32 :=
  (by decide +kernel : ∀ t : Fin grid0.N, _)

/-- Window 7's block index at a point. -/
theorem idx7 : ∀ t : Fin cfg0.N, win0_7.index t (0 : Fin 3) = t.val / 32 ∧ win0_7.index t (1 : Fin 3) = 0 ∧ win0_7.index t (2 : Fin 3) = t.val % 32 :=
  (by decide +kernel : ∀ t : Fin grid0.N, _)

/-- The queries of the batch. -/
theorem blk1 (t : Fin cfg0.N) (b : Fin 4) (j : ℕ) (hj : j < 32) (ht : t.val = 32 * b.val + j) (h : Fin 16) (g : Fin 4) (d : Fin 64) :
    (iblk m c 1 t : Vec Ideal S1x64x64 .bf16) (ix3 0 (row h g) d)
      = query (m ((c : Thread nD τ).loc main_arg0)) b h g d := by
  obtain ⟨h0, h1, h2⟩ := idx1 t
  refine Eq.trans ?_ (v0_apply m c b h g d)
  unfold iblk
  rw [View.read_apply]
  show (V m c main_v0 : Vec Ideal S4x64x64 .bf16) _ = (V m c main_v0 : Vec Ideal S4x64x64 .bf16) (ix3 b (row h g) d)
  refine congrArg (V m c main_v0 : Vec Ideal S4x64x64 .bf16) (funext fun a => Fin.ext ?_)
  match a with
  | ⟨0, _⟩ => show win0_1.index t 0 * 1 + 1 * ((ix3 0 (row h g) d) 0).val = ((ix3 b (row h g) d) 0).val; rw [h0]; show _ * _ + 1 * (0) = b.val; omega
  | ⟨1, _⟩ => show win0_1.index t 1 * 64 + 1 * ((ix3 0 (row h g) d) 1).val = ((ix3 b (row h g) d) 1).val; rw [h1]; show _ * _ + 1 * (4 * h.val + g.val) = 4 * h.val + g.val; omega
  | ⟨2, _⟩ => show win0_1.index t 2 * 64 + 1 * ((ix3 0 (row h g) d) 2).val = ((ix3 b (row h g) d) 2).val; rw [h2]; show _ * _ + 1 * (d.val) = d.val; omega

/-- The new token's keys. -/
theorem blk2 (t : Fin cfg0.N) (b : Fin 4) (j : ℕ) (hj : j < 32) (ht : t.val = 32 * b.val + j) (h : Fin 16) (d : Fin 64) :
    (iblk m c 2 t : Vec Ideal S1x16x64 .bf16) (ix3 0 h d)
      = (m ((c : Thread nD τ).loc main_arg1) : Vec Ideal S4x1x16x64 .bf16) (ix4 b 0 h d) := by
  obtain ⟨h0, h1, h2⟩ := idx2 t
  refine Eq.trans ?_ (v20_apply m c b h d)
  unfold iblk
  rw [View.read_apply]
  show (V m c main_v20 : Vec Ideal S4x16x64 .bf16) _ = (V m c main_v20 : Vec Ideal S4x16x64 .bf16) (ix3 b h d)
  refine congrArg (V m c main_v20 : Vec Ideal S4x16x64 .bf16) (funext fun a => Fin.ext ?_)
  match a with
  | ⟨0, _⟩ => show win0_2.index t 0 * 1 + 1 * ((ix3 0 h d) 0).val = ((ix3 b h d) 0).val; rw [h0]; show _ * _ + 1 * (0) = b.val; omega
  | ⟨1, _⟩ => show win0_2.index t 1 * 16 + 1 * ((ix3 0 h d) 1).val = ((ix3 b h d) 1).val; rw [h1]; show _ * _ + 1 * (h.val) = h.val; omega
  | ⟨2, _⟩ => show win0_2.index t 2 * 64 + 1 * ((ix3 0 h d) 2).val = ((ix3 b h d) 2).val; rw [h2]; show _ * _ + 1 * (d.val) = d.val; omega

/-- The new token's values. -/
theorem blk3 (t : Fin cfg0.N) (b : Fin 4) (j : ℕ) (hj : j < 32) (ht : t.val = 32 * b.val + j) (h : Fin 16) (d : Fin 64) :
    (iblk m c 3 t : Vec Ideal S1x16x64 .bf16) (ix3 0 h d)
      = (m ((c : Thread nD τ).loc main_arg2) : Vec Ideal S4x1x16x64 .bf16) (ix4 b 0 h d) := by
  obtain ⟨h0, h1, h2⟩ := idx3 t
  refine Eq.trans ?_ (v21_apply m c b h d)
  unfold iblk
  rw [View.read_apply]
  show (V m c main_v21 : Vec Ideal S4x16x64 .bf16) _ = (V m c main_v21 : Vec Ideal S4x16x64 .bf16) (ix3 b h d)
  refine congrArg (V m c main_v21 : Vec Ideal S4x16x64 .bf16) (funext fun a => Fin.ext ?_)
  match a with
  | ⟨0, _⟩ => show win0_3.index t 0 * 1 + 1 * ((ix3 0 h d) 0).val = ((ix3 b h d) 0).val; rw [h0]; show _ * _ + 1 * (0) = b.val; omega
  | ⟨1, _⟩ => show win0_3.index t 1 * 16 + 1 * ((ix3 0 h d) 1).val = ((ix3 b h d) 1).val; rw [h1]; show _ * _ + 1 * (h.val) = h.val; omega
  | ⟨2, _⟩ => show win0_3.index t 2 * 64 + 1 * ((ix3 0 h d) 2).val = ((ix3 b h d) 2).val; rw [h2]; show _ * _ + 1 * (d.val) = d.val; omega

/-- A block of key codes. -/
theorem blk4 (t : Fin cfg0.N) (b : Fin 4) (j : ℕ) (hj : j < 32) (ht : t.val = 32 * b.val + j) (h : Fin 16) (d : Fin 64) (u : Fin 1024) :
    (iblk m c 4 t : Vec Ideal S1x1024x1024 .i8) (ix3 0 (lane h d) u)
      = (m ((c : Thread nD τ).loc main_arg3) : Vec Ideal S4x32768x16x64 .i8) (ix4 b (tok j hj u) h d) := by
  obtain ⟨h0, h1, h2⟩ := idx4 t
  refine Eq.trans ?_ (v15_apply m c b h d _)
  unfold iblk
  rw [View.read_apply]
  show (V m c main_v15 : Vec Ideal S4x1024x32768 .i8) _ = (V m c main_v15 : Vec Ideal S4x1024x32768 .i8) (ix3 b (lane h d) (tok j hj u))
  refine congrArg (V m c main_v15 : Vec Ideal S4x1024x32768 .i8) (funext fun a => Fin.ext ?_)
  match a with
  | ⟨0, _⟩ => show win0_4.index t 0 * 1 + 1 * ((ix3 0 (lane h d) u) 0).val = ((ix3 b (lane h d) (tok j hj u)) 0).val; rw [h0]; show _ * _ + 1 * (0) = b.val; omega
  | ⟨1, _⟩ => show win0_4.index t 1 * 1024 + 1 * ((ix3 0 (lane h d) u) 1).val = ((ix3 b (lane h d) (tok j hj u)) 1).val; rw [h1]; show _ * _ + 1 * (64 * h.val + d.val) = 64 * h.val + d.val; omega
  | ⟨2, _⟩ => show win0_4.index t 2 * 1024 + 1 * ((ix3 0 (lane h d) u) 2).val = ((ix3 b (lane h d) (tok j hj u)) 2).val; rw [h2]; show _ * _ + 1 * (u.val) = 1024 * j + u.val; omega

/-- A block of value codes. -/
theorem blk6 (t : Fin cfg0.N) (b : Fin 4) (j : ℕ) (hj : j < 32) (ht : t.val = 32 * b.val + j) (h : Fin 16) (d : Fin 64) (u : Fin 1024) :
    (iblk m c 6 t : Vec Ideal S1x1024x1024 .i8) (ix3 0 (lane h d) u)
      = (m ((c : Thread nD τ).loc main_arg5) : Vec Ideal S4x32768x16x64 .i8) (ix4 b (tok j hj u) h d) := by
  obtain ⟨h0, h1, h2⟩ := idx6 t
  refine Eq.trans ?_ (v17_apply m c b h d _)
  unfold iblk
  rw [View.read_apply]
  show (V m c main_v17 : Vec Ideal S4x1024x32768 .i8) _ = (V m c main_v17 : Vec Ideal S4x1024x32768 .i8) (ix3 b (lane h d) (tok j hj u))
  refine congrArg (V m c main_v17 : Vec Ideal S4x1024x32768 .i8) (funext fun a => Fin.ext ?_)
  match a with
  | ⟨0, _⟩ => show win0_6.index t 0 * 1 + 1 * ((ix3 0 (lane h d) u) 0).val = ((ix3 b (lane h d) (tok j hj u)) 0).val; rw [h0]; show _ * _ + 1 * (0) = b.val; omega
  | ⟨1, _⟩ => show win0_6.index t 1 * 1024 + 1 * ((ix3 0 (lane h d) u) 1).val = ((ix3 b (lane h d) (tok j hj u)) 1).val; rw [h1]; show _ * _ + 1 * (64 * h.val + d.val) = 64 * h.val + d.val; omega
  | ⟨2, _⟩ => show win0_6.index t 2 * 1024 + 1 * ((ix3 0 (lane h d) u) 2).val = ((ix3 b (lane h d) (tok j hj u)) 2).val; rw [h2]; show _ * _ + 1 * (u.val) = 1024 * j + u.val; omega

/-- A block of key scales. -/
theorem blk5 (t : Fin cfg0.N) (b : Fin 4) (j : ℕ) (hj : j < 32) (ht : t.val = 32 * b.val + j) (h : Fin 16) (u : Fin 1024) :
    (iblk m c 5 t : Vec Ideal S1x16x1024 .f32) (ix3 0 h u)
      = (m ((c : Thread nD τ).loc main_arg4) : Vec Ideal S4x32768x16 .f32) (ix3 b (tok j hj u) h) := by
  obtain ⟨h0, h1, h2⟩ := idx5 t
  refine Eq.trans ?_ (v18_apply m c b h _)
  unfold iblk
  rw [View.read_apply]
  show (V m c main_v18 : Vec Ideal S4x16x32768 .f32) _ = (V m c main_v18 : Vec Ideal S4x16x32768 .f32) (ix3 b h (tok j hj u))
  refine congrArg (V m c main_v18 : Vec Ideal S4x16x32768 .f32) (funext fun a => Fin.ext ?_)
  match a with
  | ⟨0, _⟩ => show win0_5.index t 0 * 1 + 1 * ((ix3 0 h u) 0).val = ((ix3 b h (tok j hj u)) 0).val; rw [h0]; show _ * _ + 1 * (0) = b.val; omega
  | ⟨1, _⟩ => show win0_5.index t 1 * 16 + 1 * ((ix3 0 h u) 1).val = ((ix3 b h (tok j hj u)) 1).val; rw [h1]; show _ * _ + 1 * (h.val) = h.val; omega
  | ⟨2, _⟩ => show win0_5.index t 2 * 1024 + 1 * ((ix3 0 h u) 2).val = ((ix3 b h (tok j hj u)) 2).val; rw [h2]; show _ * _ + 1 * (u.val) = 1024 * j + u.val; omega

/-- A block of value scales. -/
theorem blk7 (t : Fin cfg0.N) (b : Fin 4) (j : ℕ) (hj : j < 32) (ht : t.val = 32 * b.val + j) (h : Fin 16) (u : Fin 1024) :
    (iblk m c 7 t : Vec Ideal S1x16x1024 .f32) (ix3 0 h u)
      = (m ((c : Thread nD τ).loc main_arg6) : Vec Ideal S4x32768x16 .f32) (ix3 b (tok j hj u) h) := by
  obtain ⟨h0, h1, h2⟩ := idx7 t
  refine Eq.trans ?_ (v19_apply m c b h _)
  unfold iblk
  rw [View.read_apply]
  show (V m c main_v19 : Vec Ideal S4x16x32768 .f32) _ = (V m c main_v19 : Vec Ideal S4x16x32768 .f32) (ix3 b h (tok j hj u))
  refine congrArg (V m c main_v19 : Vec Ideal S4x16x32768 .f32) (funext fun a => Fin.ext ?_)
  match a with
  | ⟨0, _⟩ => show win0_7.index t 0 * 1 + 1 * ((ix3 0 h u) 0).val = ((ix3 b h (tok j hj u)) 0).val; rw [h0]; show _ * _ + 1 * (0) = b.val; omega
  | ⟨1, _⟩ => show win0_7.index t 1 * 16 + 1 * ((ix3 0 h u) 1).val = ((ix3 b h (tok j hj u)) 1).val; rw [h1]; show _ * _ + 1 * (h.val) = h.val; omega
  | ⟨2, _⟩ => show win0_7.index t 2 * 1024 + 1 * ((ix3 0 h u) 2).val = ((ix3 b h (tok j hj u)) 2).val; rw [h2]; show _ * _ + 1 * (u.val) = 1024 * j + u.val; omega

/-- The batch's block-diagonal queries, read off their array. -/
theorem blk0 (t : Fin cfg0.N) (b : Fin 4) (j : ℕ) (hj : j < 32) (ht : t.val = 32 * b.val + j) (n : Fin 4) (r : Fin 16)
    (e : Fin 256) :
    (iblk m c 0 t : Vec Ideal S1x4x16x256 .bf16) (ix4 0 n r e)
      = (V m c main_v13 : Vec Ideal S4x4x16x256 .bf16) (ix4 b n r e) := by
  obtain ⟨h0, h1, h2, h3⟩ := idx0 t
  unfold iblk
  rw [View.read_apply]
  show (V m c main_v13 : Vec Ideal S4x4x16x256 .bf16) _ = _
  refine congrArg (V m c main_v13 : Vec Ideal S4x4x16x256 .bf16) (funext fun a => Fin.ext ?_)
  match a with
  | ⟨0, _⟩ => show win0_0.index t 0 * 1 + 1 * 0 = b.val; rw [h0]; omega
  | ⟨1, _⟩ => show win0_0.index t 1 * 4 + 1 * n.val = n.val; rw [h1]; omega
  | ⟨2, _⟩ => show win0_0.index t 2 * 16 + 1 * r.val = r.val; rw [h2]; omega
  | ⟨3, _⟩ => show win0_0.index t 3 * 256 + 1 * e.val = e.val; rw [h3]; omega

/-- The block-diagonal queries of the batch are block-diagonal. -/
theorem diag (t : Fin cfg0.N) (b : Fin 4) (j : ℕ) (hj : j < 32) (ht : t.val = 32 * b.val + j) :
    Block.Diag (iblk m c 0 t) (query (m ((c : Thread nD τ).loc main_arg0)) b) := fun n a g e d =>
  (blk0 m c t b j hj ht n (row4 a g) (lane4 e d)).trans (v13_apply m c b n a g e d)

end Cert.KernelIdeal.Blocks
-- ==== Proof.Trip.lean ====
/-
  One trip of the reference's loop on extended reals, read at an index.
-/
module

public import proofs.«01_k».proof.Proof.Spec
public import proofs.«01_k».proof.Proof.Gen.ReferenceIdeal.Step
public import Idealize.ShloMosaic.Lib.Pointwise
public import Idealize.ShloMosaic.Lib.DynamicIndex

@[expose] public section

set_option maxRecDepth 16384

noncomputable section

namespace Cert.ReferenceIdeal.Trip

open Idealize.ShloMosaic Idealize.ShloMosaic.TcCoe Idealize.SL.Sem
open Cert.ReferenceIdeal Cert.ReferenceIdeal.Step Cert.Spec

variable (j : ℕ) (s : State Ideal)

/-- Token `t` of block `j`. -/
abbrev tok (j : ℕ) (hj : j < 32) (t : Fin 1024) : Fin 32768 := ⟨1024 * j + t.val, by omega⟩

theorem word_toInt (n : ℕ) (hn : n < 2 ^ 31) : (BitVec.ofNat 32 n).toInt = (n : Int) := toInt_ofNat_of_lt hn

theorem b0_start (hj : j < 32) (a : Fin 1) :
    (((![(constantI S_ 32 (BitVec.ofNat 32 j) : (⟨S_, .i32⟩ : BufTy).Contents (Elt Ideal))] : Fin 1 → (⟨S_, .i32⟩ : BufTy).Contents (Elt Ideal))) a
      (Shape.Idx.first Gen.h_S_)).toInt = ((![j] : Fin 1 → ℕ) a : Int) := by
  fin_cases a
  exact word_toInt j (by omega)

theorem b0_eq (hj : j < 32) : b0 (F := Ideal) j s = extractStridedSlice S1 ![j] (K_main_v5 (F := Ideal))
    ⟨rfl, fun a => by fin_cases a; show j + 1 ≤ 32; omega⟩ :=
  Host.dynamicSlice_eq_extractStridedSlice (s := S32) S1 (K_main_v5 (F := Ideal)) _ ![j] Gen.sliceFits_S32_S1 _ (b0_start j hj)

/-- The trip's first token. -/
theorem b1_apply (hj : j < 32) (i : S_.Idx) : b1 (F := Ideal) j s i = BitVec.ofNat 32 (1024 * j) := by
  unfold b1
  rw [b0_eq j s hj]
  pointwise [K_main_v5, K_main_v4, K_main_v3, K_main_c]
  rw [BitVec.ofNat_mul]
  exact BitVec.mul_comm _ _

theorem b6_apply (hj : j < 32) (i : S_.Idx) : b6 (F := Ideal) j s i = BitVec.ofNat 32 (1024 * j) := by
  refine (select_slt_zero_of_nonneg (b1 (F := Ideal) j s) _ _ i ?_).trans (b1_apply j s hj i)
  rw [b1_apply j s hj, word_toInt _ (by omega)]
  omega

theorem b15_apply (hj : j < 32) (i : S_.Idx) : b15 (F := Ideal) j s i = BitVec.ofNat 32 (1024 * j) := by
  refine (select_slt_zero_of_nonneg (b1 (F := Ideal) j s) _ _ i ?_).trans (b1_apply j s hj i)
  rw [b1_apply j s hj, word_toInt _ (by omega)]
  omega

theorem b23_apply (hj : j < 32) (i : S_.Idx) : b23 (F := Ideal) j s i = BitVec.ofNat 32 (1024 * j) := by
  refine (select_slt_zero_of_nonneg (b1 (F := Ideal) j s) _ _ i ?_).trans (b1_apply j s hj i)
  rw [b1_apply j s hj, word_toInt _ (by omega)]
  omega

theorem b32_apply (hj : j < 32) (i : S_.Idx) : b32 (F := Ideal) j s i = BitVec.ofNat 32 (1024 * j) := by
  refine (select_slt_zero_of_nonneg (b1 (F := Ideal) j s) _ _ i ?_).trans (b1_apply j s hj i)
  rw [b1_apply j s hj, word_toInt _ (by omega)]
  omega

theorem slices4 (hj : j < 32) : S4x32768x16x64.Slices ![0, 1024 * j, 0, 0] S4x1024x16x64 :=
  ⟨rfl, fun a => by
    fin_cases a
    · show 0 + 4 ≤ 4; omega
    · show 1024 * j + 1024 ≤ 32768; omega
    · show 0 + 16 ≤ 16; omega
    · show 0 + 64 ≤ 64; omega⟩

theorem slices3 (hj : j < 32) : S4x32768x16.Slices ![0, 1024 * j, 0] S4x1024x16 :=
  ⟨rfl, fun a => by
    fin_cases a
    · show 0 + 4 ≤ 4; omega
    · show 1024 * j + 1024 ≤ 32768; omega
    · show 0 + 16 ≤ 16; omega⟩

theorem b10_start (hj : j < 32) (a : Fin 4) :
    (((![(b7 j s), (b6 j s), (b8 j s), (b9 j s)] : Fin 4 → (⟨S_, .i32⟩ : BufTy).Contents (Elt Ideal))) a
      (Shape.Idx.first Gen.h_S_)).toInt = ((![0, 1024 * j, 0, 0] : Fin 4 → ℕ) a : Int) := by
  fin_cases a
  · rfl
  · exact (congrArg BitVec.toInt (b6_apply j s hj _)).trans (word_toInt _ (by omega))
  · rfl
  · rfl

theorem b10_apply (hj : j < 32) (b : Fin 4) (t : Fin 1024) (h : Fin 16) (d : Fin 64) :
    b10 (F := Ideal) j s (ix4 b t h d) = s.main_v6_1 (ix4 b (tok j hj t) h d) := by
  have e : b10 (F := Ideal) j s = extractStridedSlice S4x1024x16x64 ![0, 1024 * j, 0, 0] s.main_v6_1 (slices4 j hj) :=
    Host.dynamicSlice_eq_extractStridedSlice (s := S4x32768x16x64) S4x1024x16x64 s.main_v6_1 _ ![0, 1024 * j, 0, 0]
      Gen.sliceFits_S4x32768x16x64_S4x1024x16x64 _ (b10_start j s hj)
  rw [e]
  pointwise

theorem b18_start (hj : j < 32) (a : Fin 3) :
    (((![(b16 j s), (b15 j s), (b17 j s)] : Fin 3 → (⟨S_, .i32⟩ : BufTy).Contents (Elt Ideal))) a
      (Shape.Idx.first Gen.h_S_)).toInt = ((![0, 1024 * j, 0] : Fin 3 → ℕ) a : Int) := by
  fin_cases a
  · rfl
  · exact (congrArg BitVec.toInt (b15_apply j s hj _)).trans (word_toInt _ (by omega))
  · rfl

theorem b18_apply (hj : j < 32) (b : Fin 4) (t : Fin 1024) (h : Fin 16) :
    b18 (F := Ideal) j s (ix3 b t h) = s.main_v6_2 (ix3 b (tok j hj t) h) := by
  have e : b18 (F := Ideal) j s = extractStridedSlice S4x1024x16 ![0, 1024 * j, 0] s.main_v6_2 (slices3 j hj) :=
    Host.dynamicSlice_eq_extractStridedSlice (s := S4x32768x16) S4x1024x16 s.main_v6_2 _ ![0, 1024 * j, 0]
      Gen.sliceFits_S4x32768x16_S4x1024x16 _ (b18_start j s hj)
  rw [e]
  pointwise

theorem b27_start (hj : j < 32) (a : Fin 4) :
    (((![(b24 j s), (b23 j s), (b25 j s), (b26 j s)] : Fin 4 → (⟨S_, .i32⟩ : BufTy).Contents (Elt Ideal))) a
      (Shape.Idx.first Gen.h_S_)).toInt = ((![0, 1024 * j, 0, 0] : Fin 4 → ℕ) a : Int) := by
  fin_cases a
  · rfl
  · exact (congrArg BitVec.toInt (b23_apply j s hj _)).trans (word_toInt _ (by omega))
  · rfl
  · rfl

theorem b27_apply (hj : j < 32) (b : Fin 4) (t : Fin 1024) (h : Fin 16) (d : Fin 64) :
    b27 (F := Ideal) j s (ix4 b t h d) = s.main_v6_3 (ix4 b (tok j hj t) h d) := by
  have e : b27 (F := Ideal) j s = extractStridedSlice S4x1024x16x64 ![0, 1024 * j, 0, 0] s.main_v6_3 (slices4 j hj) :=
    Host.dynamicSlice_eq_extractStridedSlice (s := S4x32768x16x64) S4x1024x16x64 s.main_v6_3 _ ![0, 1024 * j, 0, 0]
      Gen.sliceFits_S4x32768x16x64_S4x1024x16x64 _ (b27_start j s hj)
  rw [e]
  pointwise

theorem b35_start (hj : j < 32) (a : Fin 3) :
    (((![(b33 j s), (b32 j s), (b34 j s)] : Fin 3 → (⟨S_, .i32⟩ : BufTy).Contents (Elt Ideal))) a
      (Shape.Idx.first Gen.h_S_)).toInt = ((![0, 1024 * j, 0] : Fin 3 → ℕ) a : Int) := by
  fin_cases a
  · rfl
  · exact (congrArg BitVec.toInt (b32_apply j s hj _)).trans (word_toInt _ (by omega))
  · rfl

theorem b35_apply (hj : j < 32) (b : Fin 4) (t : Fin 1024) (h : Fin 16) :
    b35 (F := Ideal) j s (ix3 b t h) = s.main_v6_4 (ix3 b (tok j hj t) h) := by
  have e : b35 (F := Ideal) j s = extractStridedSlice S4x1024x16 ![0, 1024 * j, 0] s.main_v6_4 (slices3 j hj) :=
    Host.dynamicSlice_eq_extractStridedSlice (s := S4x32768x16) S4x1024x16 s.main_v6_4 _ ![0, 1024 * j, 0]
      Gen.sliceFits_S4x32768x16_S4x1024x16 _ (b35_start j s hj)
  rw [e]
  pointwise

/-- A byte read signed is the same number after sign extension to 32 bits. -/
theorem deq_eq (c : BitVec 8) (x : EReal) :
    (FloatOps.sitofp (F := Ideal) FTy.f32 (c.signExtend 32) * x : EReal) = deq c x := by
  unfold deq
  have e : (c.signExtend 32).toInt = c.toInt := BitVec.toInt_signExtend_of_le (by omega)
  show (((c.signExtend 32).toInt : ℝ) : EReal) * x = _
  rw [e]

/-- The block's dequantised keys. -/
theorem b42_apply (hj : j < 32) (b : Fin 4) (h : Fin 16) (d : Fin 64) (t : Fin 1024) :
    b42 (F := Ideal) j s (ix4 b t h d) = deq (s.main_v6_1 (ix4 b (tok j hj t) h d)) (s.main_v6_2 (ix3 b (tok j hj t) h)) := by
  pointwise [b42, b41, b40, b39, b38, b37, b36]
  rw [b10_apply j s hj, b18_apply j s hj]
  exact deq_eq _ _

/-- The block's dequantised values. -/
theorem b49_apply (hj : j < 32) (b : Fin 4) (h : Fin 16) (d : Fin 64) (t : Fin 1024) :
    b49 (F := Ideal) j s (ix4 b t h d) = deq (s.main_v6_3 (ix4 b (tok j hj t) h d)) (s.main_v6_4 (ix3 b (tok j hj t) h)) := by
  pointwise [b49, b48, b47, b46, b45, b44, b43]
  rw [b27_apply j s hj, b35_apply j s hj]
  exact deq_eq _ _

/-- Query `g` of head `h`. -/
def query (x : (⟨S4x1x4096, .bf16⟩ : BufTy).Contents (Elt Ideal)) (b : Fin 4) (h : Fin 16) (g : Fin 4) (d : Fin 64) : EReal :=
  x (ix3 b 0 ⟨h.val * 256 + g.val * 64 + d.val, by omega⟩)

/-- The block's keys, as rows. -/
def keys (j : ℕ) (hj : j < 32) (s : State Ideal) (b : Fin 4) (h : Fin 16) (t : Fin 1024) (d : Fin 64) : EReal :=
  deq (s.main_v6_1 (ix4 b (tok j hj t) h d)) (s.main_v6_2 (ix3 b (tok j hj t) h))

/-- The block's values, as rows. -/
def vals (j : ℕ) (hj : j < 32) (s : State Ideal) (b : Fin 4) (h : Fin 16) (t : Fin 1024) (d : Fin 64) : EReal :=
  deq (s.main_v6_3 (ix4 b (tok j hj t) h d)) (s.main_v6_4 (ix3 b (tok j hj t) h))

/-- The block's scores of one query. -/
def scores (j : ℕ) (hj : j < 32) (s : State Ideal) (b : Fin 4) (h : Fin 16) (g : Fin 4) (t : Fin 1024) : EReal :=
  score (query s.main_v6_5 b h g) (keys j hj s b h t)

theorem b55_apply (hj : j < 32) (b : Fin 4) (h : Fin 16) (g : Fin 4) (t : Fin 1024) :
    b55 (F := Ideal) j s (ix5 b h g 0 t) = scores j hj s b h g t := by
  pointwise [b55, b52, b51, b54, b53]
  unfold scores score scale
  congr 1
  refine Finset.sum_congr rfl fun d _ => ?_
  rw [b42_apply j s hj]
  pointwise [b50]
  exact mul_comm _ _

theorem b58_apply (hj : j < 32) (b : Fin 4) (h : Fin 16) (g : Fin 4) :
    b58 (F := Ideal) j s (ix4 b h g 0) = newMax (s.main_v6_7 (ix4 b h g 0)) (scores j hj s b h g) := by
  pointwise [b58, b57, b56]
  simp only [b55_apply j s hj]
  rfl

theorem b60_apply (hj : j < 32) (b : Fin 4) (h : Fin 16) (g : Fin 4) :
    b60 (F := Ideal) j s (ix4 b h g 0) = alpha (s.main_v6_7 (ix4 b h g 0)) (scores j hj s b h g) := by
  pointwise [b60, b59]
  rw [b58_apply j s hj]
  rfl

theorem b64_apply (hj : j < 32) (b : Fin 4) (h : Fin 16) (g : Fin 4) (t : Fin 1024) :
    b64 (F := Ideal) j s (ix5 b h g 0 t) = prob (s.main_v6_7 (ix4 b h g 0)) (scores j hj s b h g) t := by
  pointwise [b64, b63, b62, b61]
  rw [b58_apply j s hj, b55_apply j s hj]
  rfl

theorem b68_apply (hj : j < 32) (b : Fin 4) (h : Fin 16) (g : Fin 4) :
    b68 (F := Ideal) j s (ix4 b h g 0)
      = newSum (s.main_v6_7 (ix4 b h g 0)) (s.main_v6_8 (ix4 b h g 0)) (scores j hj s b h g) := by
  pointwise [b68, b67, b66, b65]
  simp only [b60_apply j s hj, b64_apply j s hj]
  rfl

theorem b74_apply (hj : j < 32) (b : Fin 4) (h : Fin 16) (g : Fin 4) (d : Fin 64) :
    b74 (F := Ideal) j s (ix5 b h g 0 d)
      = newAcc (s.main_v6_7 (ix4 b h g 0)) (s.main_v6_9 (ix5 b h g 0 d)) (scores j hj s b h g) (fun t => vals j hj s b h t d) := by
  pointwise [b74, b73, b72, b71, b70, b69]
  simp only [b60_apply j s hj, b64_apply j s hj, b49_apply j s hj]
  rfl

end Cert.ReferenceIdeal.Trip
end
-- ==== Proof.Invariant.lean ====
/-
  The running state along the grid: after the point that handles block `j` of batch `b`, the kernel's running maximum,
  sum and accumulator are the reference's carry after `j + 1` trips, read at that batch.
-/
module

public import proofs.«01_k».proof.Proof.Blocks
public import proofs.«01_k».proof.Proof.Trip

@[expose] public section

set_option maxRecDepth 16384

noncomputable section

namespace Cert.KernelIdeal.Invariant

open Idealize.ShloMosaic Idealize.ShloMosaic.TcCoe Idealize.SL.Sem
open Cert.KernelIdeal Cert.KernelIdeal.Gen Cert.KernelIdeal.Value Cert.Spec

variable (m : (ℓ : Loc nD τ sig) → Buf (Elt Ideal) ℓ) (c : Dev nD)

/-- The reference's carry. -/
abbrev RState := Cert.ReferenceIdeal.Step.State Ideal

/-- The reference's state carries the kernel's arguments: the queries and the cache. -/
structure Cache (s : RState) : Prop where
  x : s.main_v6_5 = (m ((c : Thread nD τ).loc main_arg0) : Vec Ideal S4x1x4096 .bf16)
  kc : s.main_v6_1 = (m ((c : Thread nD τ).loc main_arg3) : Vec Ideal S4x32768x16x64 .i8)
  ks : s.main_v6_2 = (m ((c : Thread nD τ).loc main_arg4) : Vec Ideal S4x32768x16 .f32)
  vc : s.main_v6_3 = (m ((c : Thread nD τ).loc main_arg5) : Vec Ideal S4x32768x16x64 .i8)
  vs : s.main_v6_4 = (m ((c : Thread nD τ).loc main_arg6) : Vec Ideal S4x32768x16 .f32)

/-- The kernel's running maximum, sum and accumulator are the reference's carry at batch `b`. -/
structure Rel (s : RState) (b : Fin 4) (y0 y1 : Vec Ideal S64x1 .f32) (y2 : Vec Ideal S64x1024 .f32) : Prop where
  max : ∀ (h : Fin 16) (g : Fin 4), y0 (ix2 (row h g) 0) = s.main_v6_7 (ix4 b h g 0)
  sum : ∀ (h : Fin 16) (g : Fin 4), y1 (ix2 (row h g) 0) = s.main_v6_8 (ix4 b h g 0)
  acc : ∀ (h : Fin 16) (g : Fin 4) (d : Fin 64), y2 (ix2 (row h g) (lane h d)) = s.main_v6_9 (ix5 b h g 0 d)

theorem Cache.step {s : RState} (hs : Cache m c s) (j : ℕ) : Cache m c (Cert.ReferenceIdeal.Step.step j s) :=
  ⟨hs.x, hs.kc, hs.ks, hs.vc, hs.vs⟩

section Point

variable {m c} (s : RState) (hs : Cache m c s) (t : Fin cfg0.N) (b : Fin 4) (j : ℕ) (hj : j < 32)
  (ht : t.val = 32 * b.val + j)

include hs ht hj

/-- The block's scores are the trip's. -/
theorem scores_eq (h : Fin 16) (g : Fin 4) :
    (fun u => Point.scores (iblk m c 0 t) (iblk m c 4 t) (iblk m c 5 t) (ix2 (row h g) u))
      = Cert.ReferenceIdeal.Trip.scores j hj s b h g := by
  funext u
  rw [Block.scores_apply _ _ _ _ (Blocks.diag m c t b j hj ht)]
  have hq : Host.query (m ((c : Thread nD τ).loc main_arg0)) b h g = Cert.ReferenceIdeal.Trip.query s.main_v6_5 b h g := by
    rw [hs.x]; rfl
  have hk : Block.key (iblk m c 4 t) (iblk m c 5 t) h u = Cert.ReferenceIdeal.Trip.keys j hj s b h u := by
    funext d
    unfold Block.key Cert.ReferenceIdeal.Trip.keys
    rw [hs.kc, hs.ks, Blocks.blk4 m c t b j hj ht h d u, Blocks.blk5 m c t b j hj ht h u]
    rfl
  rw [hq, hk]
  rfl

/-- The block's values are the trip's. -/
theorem vals_eq (h : Fin 16) (d : Fin 64) :
    (fun u => Block.key (iblk m c 6 t) (iblk m c 7 t) h u d)
      = fun u => Cert.ReferenceIdeal.Trip.vals j hj s b h u d := by
  funext u
  unfold Block.key Cert.ReferenceIdeal.Trip.vals
  rw [hs.vc, hs.vs, Blocks.blk6 m c t b j hj ht h d u, Blocks.blk7 m c t b j hj ht h u]
  rfl

/-- One point's update is one trip's. -/
theorem Rel.step {y0 y1 : Vec Ideal S64x1 .f32} {y2 : Vec Ideal S64x1024 .f32} (r : Rel s b y0 y1 y2) :
    Rel (Cert.ReferenceIdeal.Step.step j s) b (Point.maxStep (iblk m c 0 t) (iblk m c 4 t) (iblk m c 5 t) y0)
      (Point.sumStep (iblk m c 0 t) (iblk m c 4 t) (iblk m c 5 t) y0 y1)
      (Point.accStep (iblk m c 0 t) (iblk m c 4 t) (iblk m c 5 t) (iblk m c 6 t) (iblk m c 7 t) y0 y2) where
  max h g := by
    rw [Cert.ReferenceIdeal.Step.step_main_v6_7, Cert.ReferenceIdeal.Trip.b58_apply j s hj, Block.maxStep_apply,
      scores_eq s hs t b j hj ht, r.max]
  sum h g := by
    rw [Cert.ReferenceIdeal.Step.step_main_v6_8, Cert.ReferenceIdeal.Trip.b68_apply j s hj, Block.sumStep_apply,
      scores_eq s hs t b j hj ht, r.max, r.sum]
  acc h g d := by
    rw [Cert.ReferenceIdeal.Step.step_main_v6_9, Cert.ReferenceIdeal.Trip.b74_apply j s hj, Block.accStep_eq,
      scores_eq s hs t b j hj ht, vals_eq s hs t b j hj ht, r.max, r.acc]

end Point

/-- The reset values are the reference's first carry. -/
theorem Rel.init (s : RState) (b : Fin 4) (h7 : s.main_v6_7 = Cert.ReferenceIdeal.Step.K_main_v0)
    (h8 : s.main_v6_8 = Cert.ReferenceIdeal.Step.K_main_v1) (h9 : s.main_v6_9 = Cert.ReferenceIdeal.Step.K_main_v2) :
    Rel s b (k0_pay32 (F := Ideal)) (k0_pay33 (F := Ideal)) (k0_pay34 (F := Ideal)) where
  max h g := by rw [h7]; pointwise [k0_pay32, Cert.ReferenceIdeal.Step.K_main_v0, Cert.ReferenceIdeal.Step.K_main_cst]
  sum h g := by rw [h8]; pointwise [k0_pay33, Cert.ReferenceIdeal.Step.K_main_v1, Cert.ReferenceIdeal.Step.K_main_cst_0]
  acc h g d := by rw [h9]; pointwise [k0_pay34, Cert.ReferenceIdeal.Step.K_main_v2, Cert.ReferenceIdeal.Step.K_main_cst_1]

/-- What the three running arrays hold after point `n`. -/
abbrev after (n : ℕ) (hn : n < cfg0.N) (s : RState) (b : Fin 4) : Prop :=
  Rel s b (outsAt0 m c n hn).2.2.2.2.2.1 (outsAt0 m c n hn).2.2.2.2.2.2.1 (outsAt0 m c n hn).2.2.2.2.2.2.2

variable (it : ℕ → RState) (hit : ∀ n, it (n + 1) = Cert.ReferenceIdeal.Step.step n (it n))
  (h0 : Cache m c (it 0)) (h7 : (it 0).main_v6_7 = Cert.ReferenceIdeal.Step.K_main_v0)
  (h8 : (it 0).main_v6_8 = Cert.ReferenceIdeal.Step.K_main_v1) (h9 : (it 0).main_v6_9 = Cert.ReferenceIdeal.Step.K_main_v2)

include hit h0 in
theorem cache_it : ∀ n, Cache m c (it n)
  | 0 => h0
  | n + 1 => by rw [hit]; exact (cache_it n).step m c n

/-- What point `n` leaves is its step over some earlier contents: over what the point before left, unless it is the
    first. -/
theorem outs_step (n : ℕ) (hn : n < cfg0.N) : ∃ acc, outsAt0 m c n hn = stAt0 m c n hn acc
    ∧ ∀ (k : ℕ) (hk : k < cfg0.N), n = k + 1 → acc = outsAt0 m c k hk := by
  cases n with
  | zero => exact ⟨_, outsAt0_zero m c hn, fun k hk h => absurd h (by omega)⟩
  | succ k => exact ⟨_, outsAt0_succ m c k hn, fun k' hk' h => by obtain rfl : k = k' := by omega
                                                                  rfl⟩

include hit h0 h7 h8 h9

/-- After the point of block `j` of batch `b` the running arrays are the reference's carry after `j + 1` trips. -/
theorem after_all (b : Fin 4) : ∀ (j : ℕ) (hj : j < 32) (hn : 32 * b.val + j < cfg0.N), after m c (32 * b.val + j) hn (it (j + 1)) b
  | 0, hj, hn => by
    obtain ⟨acc, e, -⟩ := outs_step m c (32 * b.val + 0) hn
    have e0 : (⟨32 * b.val + 0, hn⟩ : Fin cfg0.N).val % 32 = 0 := by dsimp only; omega
    have e1 : ¬(⟨32 * b.val + 0, hn⟩ : Fin cfg0.N).val % 32 = 31 := by omega
    have eA := e.trans (stAt0_A m c ⟨32 * b.val + 0, hn⟩ acc e0 e1)
    unfold after
    rw [eA]
    dsimp only
    rw [Point.max_A, Point.sum_A, Point.acc_A, hit]
    exact Rel.step (it 0) h0 _ b 0 hj rfl (Rel.init (it 0) b h7 h8 h9)
  | j + 1, hj, hn => by
    have ih := after_all b j (by omega) (by omega)
    obtain ⟨acc, e, he⟩ := outs_step m c (32 * b.val + (j + 1)) hn
    have he := he (32 * b.val + j) (by omega) (by omega)
    have e0 : ¬(⟨32 * b.val + (j + 1), hn⟩ : Fin cfg0.N).val % 32 = 0 := by dsimp only; omega
    unfold after at ih ⊢
    rw [← he] at ih
    rw [hit]
    by_cases e1 : (⟨32 * b.val + (j + 1), hn⟩ : Fin cfg0.N).val % 32 = 31
    · rw [e.trans (stAt0_C m c ⟨32 * b.val + (j + 1), hn⟩ acc e0 e1)]
      dsimp only
      rw [Point.max_C, Point.sum_C, Point.acc_C]
      exact Rel.step (it (j + 1)) (cache_it m c it hit h0 (j + 1)) _ b (j + 1) hj rfl ih
    · rw [e.trans (stAt0_B m c ⟨32 * b.val + (j + 1), hn⟩ acc e0 e1)]
      dsimp only
      rw [Point.max_B, Point.sum_B, Point.acc_B]
      exact Rel.step (it (j + 1)) (cache_it m c it hit h0 (j + 1)) _ b (j + 1) hj rfl ih

end Cert.KernelIdeal.Invariant
-- ==== Proof.KerOut.lean ====
/-
  What the kernel writes at the last point of a batch, on extended reals and at an index.
-/
module

public import proofs.«01_k».proof.Proof.Block

@[expose] public section

set_option maxRecDepth 16384

noncomputable section

namespace Cert.KernelIdeal.Out

open Idealize.ShloMosaic Idealize.ShloMosaic.TcCoe Idealize.SL.Sem
open Cert.KernelIdeal Cert.KernelIdeal.Gen Cert.KernelIdeal.Point Cert.KernelIdeal.Block Cert.Spec

/-- The signed quotient by four rounded down, as the body spells it. -/
def quo4 (x : BitVec 32) : BitVec 32 := Scalar.select
      (IntOp.andi
        (IntOp.cmpi CmpIPredicate.ne
          (IntOp.subi (BitVec.setWidth 32 (IntOp.cmpi CmpIPredicate.sgt x 0#32))
            (BitVec.setWidth 32 (IntOp.cmpi CmpIPredicate.slt x 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector x 4#32) 0#32))
      (IntOp.subi (IntOp.divsi ArithUnit.vector x 4#32) 1#32)
      (IntOp.divsi ArithUnit.vector x 4#32)

/-- A row's quotient by four is its head. -/
theorem quo4_eq (h : Fin 16) (g : Fin 4) : quo4 (BitVec.ofNat 32 (row h g).val) = BitVec.ofNat 32 h.val := by
  revert h g
  decide

theorem head_bit (h k : Fin 16) :
    (BitVec.setWidth 32 (IntOp.cmpi CmpIPredicate.eq (BitVec.ofNat 32 h.val) (BitVec.ofNat 32 k.val))).toInt = if h = k then 1 else 0 := by
  revert h k
  decide

/-- The selector matrix: one where the column is the row's head. -/
theorem expand_apply (h k : Fin 16) (g : Fin 4) :
    k0_pay19 (F := Ideal) k0_pay15 k0_pay16 k0_pay17 k0_pay18 (ix2 (row h g) k) = if h = k then (1 : EReal) else 0 := by
  pointwise [k0_pay19, k0_pay15, k0_pay16, k0_pay17, k0_pay18]
  refine (show _ = (((BitVec.setWidth 32 (IntOp.cmpi CmpIPredicate.eq (quo4 (BitVec.ofNat 32 (row h g).val))
    (BitVec.ofNat 32 k.val))).toInt : ℝ) : EReal) from rfl).trans ?_
  rw [quo4_eq, head_bit]
  split_ifs <;> simp

/-- A sum against a row of the selector matrix picks one term. -/
theorem pick (h : Fin 16) (g : Fin 4) (f : Fin 16 → EReal) :
    (∑ k, k0_pay19 (F := Ideal) k0_pay15 k0_pay16 k0_pay17 k0_pay18 (ix2 (row h g) k) * f k : EReal) = f h := by
  simp only [expand_apply]
  rw [Finset.sum_eq_single h]
  · rw [if_pos rfl]; exact one_mul _
  · intro k _ hk
    rw [if_neg (Ne.symm hk)]; exact zero_mul _
  · intro hh
    exact absurd (Finset.mem_univ h) hh

theorem low_select (f : Fin 16 → EReal) (z : EReal) (h : Fin 16) :
    Scalar.select (IntOp.cmpi CmpIPredicate.eq (BitVec.ofNat 32 h.val) 7#32) (f ⟨7, by omega⟩) (Scalar.select (IntOp.cmpi CmpIPredicate.eq (BitVec.ofNat 32 h.val) 6#32) (f ⟨6, by omega⟩) (Scalar.select (IntOp.cmpi CmpIPredicate.eq (BitVec.ofNat 32 h.val) 5#32) (f ⟨5, by omega⟩) (Scalar.select (IntOp.cmpi CmpIPredicate.eq (BitVec.ofNat 32 h.val) 4#32) (f ⟨4, by omega⟩) (Scalar.select (IntOp.cmpi CmpIPredicate.eq (BitVec.ofNat 32 h.val) 3#32) (f ⟨3, by omega⟩) (Scalar.select (IntOp.cmpi CmpIPredicate.eq (BitVec.ofNat 32 h.val) 2#32) (f ⟨2, by omega⟩) (Scalar.select (IntOp.cmpi CmpIPredicate.eq (BitVec.ofNat 32 h.val) 1#32) (f ⟨1, by omega⟩) (Scalar.select (IntOp.cmpi CmpIPredicate.eq (BitVec.ofNat 32 h.val) 0#32) (f ⟨0, by omega⟩) (z)))))))) = if h.val < 8 then f h else z := by
  fin_cases h <;> rfl

theorem high_select (f : Fin 16 → EReal) (y : EReal) (h : Fin 16) :
    Scalar.select (IntOp.cmpi CmpIPredicate.eq (BitVec.ofNat 32 h.val) 15#32) (f ⟨15, by omega⟩) (Scalar.select (IntOp.cmpi CmpIPredicate.eq (BitVec.ofNat 32 h.val) 14#32) (f ⟨14, by omega⟩) (Scalar.select (IntOp.cmpi CmpIPredicate.eq (BitVec.ofNat 32 h.val) 13#32) (f ⟨13, by omega⟩) (Scalar.select (IntOp.cmpi CmpIPredicate.eq (BitVec.ofNat 32 h.val) 12#32) (f ⟨12, by omega⟩) (Scalar.select (IntOp.cmpi CmpIPredicate.eq (BitVec.ofNat 32 h.val) 11#32) (f ⟨11, by omega⟩) (Scalar.select (IntOp.cmpi CmpIPredicate.eq (BitVec.ofNat 32 h.val) 10#32) (f ⟨10, by omega⟩) (Scalar.select (IntOp.cmpi CmpIPredicate.eq (BitVec.ofNat 32 h.val) 9#32) (f ⟨9, by omega⟩) (Scalar.select (IntOp.cmpi CmpIPredicate.eq (BitVec.ofNat 32 h.val) 8#32) (f ⟨8, by omega⟩) (y)))))))) = if h.val < 8 then y else f h := by
  fin_cases h <;> rfl

variable (x1 : Vec Ideal S1x64x64 .bf16) (x2 x3 : Vec Ideal S1x16x64 .bf16)
  (y0 y1 : Vec Ideal S64x1 .f32) (y2 : Vec Ideal S64x1024 .f32)

/-- The new token's entries of head `h`. -/
def tokRow (x : Vec Ideal S1x16x64 .bf16) (h : Fin 16) (d : Fin 64) : EReal := x (ix3 0 h d)

theorem kscale_apply (h : Fin 16) : k0_pay4 (F := Ideal) x2 (ix2 h 0) = qscale (tokRow x2 h) := by
  pointwise [k0_pay4, k0_pay3]
  rfl

theorem vscale_apply (h : Fin 16) : k0_pay7 (F := Ideal) x3 (ix2 h 0) = qscale (tokRow x3 h) := by
  pointwise [k0_pay7, k0_pay6]
  rfl

theorem kcode_apply (h : Fin 16) (d : Fin 64) : k0_pay5 (F := Ideal) x2 (ix2 h d) = qcode (tokRow x2 h) d := by
  pointwise [k0_pay5, k0_pay3]
  rw [kscale_apply]
  rfl

theorem vcode_apply (h : Fin 16) (d : Fin 64) : k0_pay8 (F := Ideal) x3 (ix2 h d) = qcode (tokRow x3 h) d := by
  pointwise [k0_pay8, k0_pay6]
  rw [vscale_apply]
  rfl

theorem outKC_apply (h : Fin 16) (d : Fin 64) : outKC (F := Ideal) x2 (ix3 0 h d) = qcode (tokRow x2 h) d := by
  pointwise [outKC, k0_pay9]
  exact kcode_apply x2 h d

theorem outVC_apply (h : Fin 16) (d : Fin 64) : outVC (F := Ideal) x3 (ix3 0 h d) = qcode (tokRow x3 h) d := by
  pointwise [outVC, k0_pay10]
  exact vcode_apply x3 h d

theorem outKS_apply (h : Fin 16) : outKS (F := Ideal) x2 (ix3 0 h 0) = qscale (tokRow x2 h) := by
  pointwise [outKS, k0_pay11]
  exact kscale_apply x2 h

theorem outVS_apply (h : Fin 16) : outVS (F := Ideal) x3 (ix3 0 h 0) = qscale (tokRow x3 h) := by
  pointwise [outVS, k0_pay12]
  exact vscale_apply x3 h

theorem kdeq_apply (h : Fin 16) (d : Fin 64) :
    k0_pay13 (F := Ideal) (k0_pay4 x2) (k0_pay5 x2) (ix2 h d) = deq (qcode (tokRow x2 h) d) (qscale (tokRow x2 h)) := by
  pointwise [k0_pay13]
  rw [kscale_apply, kcode_apply]
  rfl

theorem vdeq_apply (h : Fin 16) (d : Fin 64) :
    k0_pay14 (F := Ideal) (k0_pay7 x3) (k0_pay8 x3) (ix2 h d) = deq (qcode (tokRow x3 h) d) (qscale (tokRow x3 h)) := by
  pointwise [k0_pay14]
  rw [vscale_apply, vcode_apply]
  rfl

/-- The new token's value row, per query row. -/
theorem vrow_apply (h : Fin 16) (g : Fin 4) (d : Fin 64) :
    k0_pay20 (F := Ideal) (k0_pay14 (k0_pay7 x3) (k0_pay8 x3)) k0_pay15 k0_pay16 k0_pay17 k0_pay18 (ix2 (row h g) d)
      = deq (qcode (tokRow x3 h) d) (qscale (tokRow x3 h)) := by
  pointwise [k0_pay20]
  rw [pick h g (fun k => k0_pay14 (F := Ideal) (k0_pay7 x3) (k0_pay8 x3) (ix2 k d))]
  exact vdeq_apply x3 h d

/-- The new token's score. -/
def newScore (h : Fin 16) (g : Fin 4) : EReal :=
  score (fun d => x1 (ix3 0 (row h g) d)) (fun d => deq (qcode (tokRow x2 h) d) (qscale (tokRow x2 h)))

theorem score_apply (h : Fin 16) (g : Fin 4) :
    k0_pay21 (F := Ideal) (k0_pay13 (k0_pay4 x2) (k0_pay5 x2)) k0_pay15 k0_pay16 k0_pay17 k0_pay18 x1 (ix2 (row h g) 0)
      = newScore x1 x2 h g := by
  pointwise [k0_pay21]
  unfold newScore score scale
  congr 1
  refine Finset.sum_congr rfl fun d _ => ?_
  rw [pick h g (fun k => k0_pay13 (F := Ideal) (k0_pay4 x2) (k0_pay5 x2) (ix2 k d)), kdeq_apply]

theorem head_apply (h : Fin 16) (g : Fin 4) (d : Fin 64) :
    (k0_pay29 (iota .tc S64x64 32 [0] iota_S64x64_d0_w32) 4#32 k0_pay27 k0_pay28 0#32) (ix2 (row h g) d) = BitVec.ofNat 32 h.val := by
  pointwise [k0_pay29, k0_pay27, k0_pay28]
  exact quo4_eq h g

/-- The row's own head's 64 lanes, heads 0 to 7. -/
theorem low_apply (h : Fin 16) (g : Fin 4) (d : Fin 64) :
    k0_pay30 (F := Ideal) y2 k0_pay26 (iota .tc S64x64 32 [0] iota_S64x64_d0_w32) 4#32 k0_pay27 k0_pay28 0#32 (ix2 (row h g) d)
      = if h.val < 8 then y2 (ix2 (row h g) (lane h d)) else (0 : EReal) := by
  pointwise [k0_pay30, k0_pay26]
  rw [head_apply]
  have e : (⟨d.val, by omega⟩ : Fin 1024) = lane ⟨0, by omega⟩ d := Fin.ext (by dsimp only; omega)
  rw [e]
  exact low_select (fun k => y2 (ix2 (row h g) (lane k d))) 0 h

theorem outY_apply (h : Fin 16) (g : Fin 4) (d : Fin 64) :
    outY (F := Ideal) x1 x2 x3 y0 y1 y2 (ix3 0 (row h g) d)
      = lastOut (y0 (ix2 (row h g) 0)) (y1 (ix2 (row h g) 0)) (y2 (ix2 (row h g) (lane h d)))
          (newScore x1 x2 h g) (deq (qcode (tokRow x3 h) d) (qscale (tokRow x3 h))) := by
  pointwise [outY, k0_pay2, k0_pay31]
  rw [head_apply, vrow_apply, low_apply]
  pointwise [k0_pay25, k0_pay23, k0_pay24, k0_pay22]
  rw [score_apply]
  have e := high_select (fun k => y2 (ix2 (row h g) (lane k d))) (if h.val < 8 then y2 (ix2 (row h g) (lane h d)) else (0 : EReal)) h
  have e' : (if h.val < 8 then (if h.val < 8 then y2 (ix2 (row h g) (lane h d)) else (0 : EReal)) else y2 (ix2 (row h g) (lane h d)))
      = y2 (ix2 (row h g) (lane h d)) := by split_ifs <;> rfl
  unfold lastOut lastMax
  refine congrArg (fun z : EReal => Ideal.div (Ideal.exp (y0 (ix2 (row h g) 0) - max (y0 (ix2 (row h g) 0)) (newScore x1 x2 h g)) * z
    + Ideal.exp (newScore x1 x2 h g - max (y0 (ix2 (row h g) 0)) (newScore x1 x2 h g)) * deq (qcode (tokRow x3 h) d) (qscale (tokRow x3 h)))
    (Ideal.exp (y0 (ix2 (row h g) 0) - max (y0 (ix2 (row h g) 0)) (newScore x1 x2 h g)) * y1 (ix2 (row h g) 0)
      + Ideal.exp (newScore x1 x2 h g - max (y0 (ix2 (row h g) 0)) (newScore x1 x2 h g)))) (e.trans e')

end Cert.KernelIdeal.Out
end
-- ==== Proof.RefOut.lean ====
/-
  What the reference returns, on extended reals, from the state its loop leaves and the new token.
-/
module

public import proofs.«01_k».proof.Proof.Trip

@[expose] public section

set_option maxRecDepth 16384

noncomputable section

namespace Cert.ReferenceIdeal.Out

open Idealize.ShloMosaic Idealize.ShloMosaic.TcCoe Idealize.SL.Sem
open Cert.ReferenceIdeal Cert.ReferenceIdeal.Gen Cert.ReferenceIdeal.Step Cert.ReferenceIdeal.Trip Cert.Spec

/-! The operations after the loop, named one by one. -/

section Terms

variable {F : FTy → Type} [FloatOps F]
variable (s : State F) (main_arg0 : (⟨S4x1x4096, .bf16⟩ : BufTy).Contents (Elt F))
  (main_arg1 main_arg2 : (⟨S4x1x16x64, .bf16⟩ : BufTy).Contents (Elt F))

/-- The new token's scales. -/
def qS : (⟨S4x1x16, .f32⟩ : BufTy).Contents (Elt F) :=
  select (cmpf .ogt (Host.reduce FloatOps.maximumf (Host.absf (extf .f32 (main_arg1) bitsLt_bf16_f32)) (constant S_ .f32 0xFF800000#32) reducesTo_S4x1x16x64_S4x1x16_d3 h_S_) (broadcastInDim S4x1x16 ![] bcast_S_S4x1x16 (constant S_ .f32 0x00000000#32))) (Host.divf (Host.reduce FloatOps.maximumf (Host.absf (extf .f32 (main_arg1) bitsLt_bf16_f32)) (constant S_ .f32 0xFF800000#32) reducesTo_S4x1x16x64_S4x1x16_d3 h_S_) (broadcastInDim S4x1x16 ![] bcast_S_S4x1x16 (constant S_ .f32 0x42FE0000#32))) (broadcastInDim S4x1x16 ![] bcast_S_S4x1x16 (constant S_ .f32 0x3F800000#32))
/-- The new token's codes. -/
def qC : (⟨S4x1x16x64, .i8⟩ : BufTy).Contents (Elt F) :=
  trunci 8 (fptosi 32 (minimumf (broadcastInDim S4x1x16x64 ![] bcast_S_S4x1x16x64 (id (constant S_ .f32 0x42FE0000#32))) (maximumf (broadcastInDim S4x1x16x64 ![] bcast_S_S4x1x16x64 (id (constant S_ .f32 0xC2FE0000#32))) (Host.roundeven (Host.divf (extf .f32 (main_arg1) bitsLt_bf16_f32) (broadcastInDim S4x1x16x64 ![0, 1, 2, 3] bcast_S4x1x16x1_S4x1x16x64_0_1_2_3 (broadcastInDim S4x1x16x1 ![0, 1, 2] bcast_S4x1x16_S4x1x16x1_0_1_2 (qS main_arg1)))))))) natLt_8_32
/-- The new token dequantised. -/
def kD : (⟨S4x1x16x64, .bf16⟩ : BufTy).Contents (Elt F) :=
  mulf (truncf .bf16 (sitofp .f32 (extsi 32 (qC main_arg1) natLt_8_32)) bitsLt_bf16_f32) (broadcastInDim S4x1x16x64 ![0, 1, 2, 3] bcast_S4x1x16x1_S4x1x16x64_0_1_2_3 (truncf .bf16 (broadcastInDim S4x1x16x1 ![0, 1, 2] bcast_S4x1x16_S4x1x16x1_0_1_2 (qS main_arg1)) bitsLt_bf16_f32))
/-- The new token's masked scores. -/
def sN : (⟨S4x16x4x1x1, .f32⟩ : BufTy).Contents (Elt F) :=
  select (broadcastInDim S4x16x4x1x1 ![3, 4] bcast_S1x1_S4x16x4x1x1_3_4 (select (cmpi .sge (addi (iotaInDim S1x1 32 0) (broadcastInDim S1x1 ![] bcast_S_S1x1 (constantI S_ 32 0#32))) (iotaInDim S1x1 32 1)) (broadcastInDim S1x1 ![] bcast_S_S1x1 (constantI S_ 1 1#1)) (broadcastInDim S1x1 ![] bcast_S_S1x1 (constantI S_ 1 0#1)))) (mulf (transpose S4x16x4x1x1 [0, 1, 4, 3, 2] (Host.dotGeneral dot_S4x1x16x64_S4x1x16x4x64_S4x16x1x1x4_3_4_1_13_02_02 none (kD main_arg1) (shapeCast _ (main_arg0) shapeCasts_S4x1x4096_S4x1x16x4x64)) transposes_S4x16x1x1x4_S4x16x4x1x1_0_1_4_3_2) (broadcastInDim S4x16x4x1x1 ![] bcast_S_S4x16x4x1x1 (constant S_ .f32 0x3E000000#32))) (broadcastInDim S4x16x4x1x1 ![] bcast_S_S4x16x4x1x1 (id (constant S_ .f32 0xFF800000#32)))
/-- The final maximum. -/
def mF : (⟨S4x16x4x1, .f32⟩ : BufTy).Contents (Elt F) :=
  maximumf (s.main_v6_7) (Host.reduce FloatOps.maximumf (sN main_arg0 main_arg1) (constant S_ .f32 0xFF800000#32) reducesTo_S4x16x4x1x1_S4x16x4x1_d4 h_S_)
/-- The final rescaling factor. -/
def aF : (⟨S4x16x4x1, .f32⟩ : BufTy).Contents (Elt F) :=
  Host.exp (subf (s.main_v6_7) (mF s main_arg0 main_arg1))
/-- The new token's weight. -/
def pN : (⟨S4x16x4x1x1, .f32⟩ : BufTy).Contents (Elt F) :=
  Host.exp (subf (sN main_arg0 main_arg1) (broadcastInDim S4x16x4x1x1 ![0, 1, 2, 3] bcast_S4x16x4x1_S4x16x4x1x1_0_1_2_3 (mF s main_arg0 main_arg1)))
/-- The final sum. -/
def lF : (⟨S4x16x4x1, .f32⟩ : BufTy).Contents (Elt F) :=
  addf (mulf (aF s main_arg0 main_arg1) (s.main_v6_8)) (Host.reduceAdd (pN s main_arg0 main_arg1) (constant S_ .f32 0x00000000#32) reducesTo_S4x16x4x1x1_S4x16x4x1_d4 h_S_)
/-- The attention output per head and query. -/
def oF : (⟨S4x16x4x1x64, .f32⟩ : BufTy).Contents (Elt F) :=
  Host.divf (addf (mulf (broadcastInDim S4x16x4x1x64 ![0, 1, 2, 3, 4] bcast_S4x16x4x1x1_S4x16x4x1x64_0_1_2_3_4 (broadcastInDim S4x16x4x1x1 ![0, 1, 2, 3] bcast_S4x16x4x1_S4x16x4x1x1_0_1_2_3 (aF s main_arg0 main_arg1))) (s.main_v6_9)) (Host.dotGeneral dot_S4x16x4x1x1_S4x1x16x64_S4x16x4x1x64_4_1_23_3_01_02 none (pN s main_arg0 main_arg1) (extf .f32 (kD main_arg2) bitsLt_bf16_f32))) (broadcastInDim S4x16x4x1x64 ![0, 1, 2, 3, 4] bcast_S4x16x4x1x1_S4x16x4x1x64_0_1_2_3_4 (broadcastInDim S4x16x4x1x1 ![0, 1, 2, 3] bcast_S4x16x4x1_S4x16x4x1x1_0_1_2_3 (lF s main_arg0 main_arg1)))

theorem v83_eq : R_main_v83 s main_arg0 main_arg1 main_arg2
    = shapeCast _ (truncf .bf16 (shapeCast _ (transpose S4x1x16x4x64 [0, 3, 1, 2, 4] (oF s main_arg0 main_arg1 main_arg2)
        transposes_S4x16x4x1x64_S4x1x16x4x64_0_3_1_2_4) shapeCasts_S4x1x16x4x64_S4x1x4096) bitsLt_bf16_f32) shapeCasts_S4x1x4096_S4x64x64 := rfl
theorem v84_eq : R_main_v84 s main_arg1 = shapeCast _ (qC main_arg1) shapeCasts_S4x1x16x64_S4x16x64 := rfl
theorem v86_eq : R_main_v86 s main_arg2 = shapeCast _ (qC main_arg2) shapeCasts_S4x1x16x64_S4x16x64 := rfl

end Terms

section Values

variable (s : State Ideal) (a0 : (⟨S4x1x4096, .bf16⟩ : BufTy).Contents (Elt Ideal))
  (a1 a2 : (⟨S4x1x16x64, .bf16⟩ : BufTy).Contents (Elt Ideal))

/-- The new token's entries of head `h`. -/
def tokRow (x : (⟨S4x1x16x64, .bf16⟩ : BufTy).Contents (Elt Ideal)) (b : Fin 4) (h : Fin 16) (d : Fin 64) : EReal := x (ix4 b 0 h d)

theorem qS_apply (b : Fin 4) (h : Fin 16) : qS (F := Ideal) a1 (ix3 b 0 h) = qscale (tokRow a1 b h) := by
  pointwise [qS]
  rfl

theorem qC_apply (b : Fin 4) (h : Fin 16) (d : Fin 64) : qC (F := Ideal) a1 (ix4 b 0 h d) = qcode (tokRow a1 b h) d := by
  pointwise [qC]
  rw [qS_apply]
  exact qcode_eq _ _

theorem kD_apply (b : Fin 4) (h : Fin 16) (d : Fin 64) :
    kD (F := Ideal) a1 (ix4 b 0 h d) = deq (qcode (tokRow a1 b h) d) (qscale (tokRow a1 b h)) := by
  pointwise [kD]
  rw [qS_apply, qC_apply]
  exact deq_eq _ _

/-- The score of the new token. -/
def newScore (b : Fin 4) (h : Fin 16) (g : Fin 4) : EReal :=
  score (query a0 b h g) (fun d => deq (qcode (tokRow a1 b h) d) (qscale (tokRow a1 b h)))

theorem sN_apply (b : Fin 4) (h : Fin 16) (g : Fin 4) : sN (F := Ideal) a0 a1 (ix5 b h g 0 0) = newScore a0 a1 b h g := by
  pointwise [sN]
  refine (show _ = (∑ d, kD (F := Ideal) a1 (ix4 b 0 h d) * a0 (ix3 b 0 ⟨h.val * 256 + g.val * 64 + d.val, by omega⟩) : EReal) * scale from rfl).trans ?_
  unfold newScore score
  congr 1
  refine Finset.sum_congr rfl fun d _ => ?_
  rw [kD_apply]
  exact mul_comm _ _

theorem negInf_eq : negInf = ⊥ := by
  simp [negInf, Ideal.ofBits, Ideal.ieee]

theorem mF_apply (b : Fin 4) (h : Fin 16) (g : Fin 4) :
    mF (F := Ideal) s a0 a1 (ix4 b h g 0) = lastMax (s.main_v6_7 (ix4 b h g 0)) (newScore a0 a1 b h g) := by
  pointwise [mF]
  refine congrArg (max (s.main_v6_7 (ix4 b h g 0))) ?_
  rw [Finset.univ_unique, Finset.fold_singleton]
  refine (congrArg (fun z : EReal => max z negInf) (sN_apply a0 a1 b h g)).trans ?_
  rw [negInf_eq]
  exact max_eq_left bot_le

theorem aF_apply (b : Fin 4) (h : Fin 16) (g : Fin 4) :
    aF (F := Ideal) s a0 a1 (ix4 b h g 0)
      = Ideal.exp (s.main_v6_7 (ix4 b h g 0) - lastMax (s.main_v6_7 (ix4 b h g 0)) (newScore a0 a1 b h g)) := by
  pointwise [aF]
  rw [mF_apply]

theorem pN_apply (b : Fin 4) (h : Fin 16) (g : Fin 4) :
    pN (F := Ideal) s a0 a1 (ix5 b h g 0 0)
      = Ideal.exp (newScore a0 a1 b h g - lastMax (s.main_v6_7 (ix4 b h g 0)) (newScore a0 a1 b h g)) := by
  pointwise [pN]
  rw [mF_apply, sN_apply]

theorem lF_apply (b : Fin 4) (h : Fin 16) (g : Fin 4) :
    lF (F := Ideal) s a0 a1 (ix4 b h g 0)
      = (aF (F := Ideal) s a0 a1 (ix4 b h g 0) * s.main_v6_8 (ix4 b h g 0) + pN (F := Ideal) s a0 a1 (ix5 b h g 0 0) : EReal) := by
  pointwise [lF]
  rw [Fin.sum_univ_one]

theorem oF_apply (b : Fin 4) (h : Fin 16) (g : Fin 4) (d : Fin 64) :
    oF (F := Ideal) s a0 a1 a2 (ix5 b h g 0 d)
      = lastOut (s.main_v6_7 (ix4 b h g 0)) (s.main_v6_8 (ix4 b h g 0)) (s.main_v6_9 (ix5 b h g 0 d))
          (newScore a0 a1 b h g) (deq (qcode (tokRow a2 b h) d) (qscale (tokRow a2 b h))) := by
  pointwise [oF]
  rw [Fin.sum_univ_one, lF_apply, aF_apply, pN_apply, kD_apply]
  rfl

theorem v83_apply (b : Fin 4) (h : Fin 16) (g : Fin 4) (d : Fin 64) :
    R_main_v83 (F := Ideal) s a0 a1 a2 (ix3 b (row h g) d) = oF (F := Ideal) s a0 a1 a2 (ix5 b h g 0 d) := by
  rw [v83_eq]
  pointwise

theorem v84_apply (b : Fin 4) (h : Fin 16) (d : Fin 64) :
    R_main_v84 (F := Ideal) s a1 (ix3 b h d) = qcode (tokRow a1 b h) d := by
  rw [v84_eq]
  pointwise
  exact qC_apply a1 b h d

theorem v86_apply (b : Fin 4) (h : Fin 16) (d : Fin 64) :
    R_main_v86 (F := Ideal) s a2 (ix3 b h d) = qcode (tokRow a2 b h) d := by
  rw [v86_eq]
  pointwise
  exact qC_apply a2 b h d

theorem v85_apply (b : Fin 4) (h : Fin 16) : R_main_v85 (F := Ideal) s a1 (ix3 b h 0) = qscale (tokRow a1 b h) := by
  unfold R_main_v85
  exact (show _ = qS (F := Ideal) a1 (ix3 b 0 h) by pointwise; rfl).trans (qS_apply a1 b h)

theorem v87_apply (b : Fin 4) (h : Fin 16) : R_main_v87 (F := Ideal) s a2 (ix3 b h 0) = qscale (tokRow a2 b h) := by
  unfold R_main_v87
  exact (show _ = qS (F := Ideal) a2 (ix3 b 0 h) by pointwise; rfl).trans (qS_apply a2 b h)

end Values

end Cert.ReferenceIdeal.Out
end
-- ==== Proof.Final.lean ====
/-
  The kernel's five result arrays are the reference's: each is read at the last point of its batch, where the running
  arrays are the reference's carry after all 32 trips.
-/
module

public import proofs.«01_k».proof.Proof.Invariant
public import proofs.«01_k».proof.Proof.KerOut
public import proofs.«01_k».proof.Proof.RefOut

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Value Cert.KernelIdeal.Invariant Cert.Spec

variable (m : (ℓ : Loc nD τ sig) → Buf (Elt Ideal) ℓ) (c : Dev nD)

/-- What the last point of a batch leaves in the five outputs, over the running arrays it leaves. -/
theorem outs_last (b : Fin 4) (hn : 32 * b.val + 31 < cfg0.N) :
    (outsAt0 m c (32 * b.val + 31) hn).1
        = Point.outY (iblk m c 1 ⟨32 * b.val + 31, hn⟩) (iblk m c 2 ⟨32 * b.val + 31, hn⟩) (iblk m c 3 ⟨32 * b.val + 31, hn⟩)
          (outsAt0 m c (32 * b.val + 31) hn).2.2.2.2.2.1 (outsAt0 m c (32 * b.val + 31) hn).2.2.2.2.2.2.1
          (outsAt0 m c (32 * b.val + 31) hn).2.2.2.2.2.2.2
    ∧ (outsAt0 m c (32 * b.val + 31) hn).2.1 = Point.outKC (iblk m c 2 ⟨32 * b.val + 31, hn⟩)
    ∧ (outsAt0 m c (32 * b.val + 31) hn).2.2.1 = Point.outKS (iblk m c 2 ⟨32 * b.val + 31, hn⟩)
    ∧ (outsAt0 m c (32 * b.val + 31) hn).2.2.2.1 = Point.outVC (iblk m c 3 ⟨32 * b.val + 31, hn⟩)
    ∧ (outsAt0 m c (32 * b.val + 31) hn).2.2.2.2.1 = Point.outVS (iblk m c 3 ⟨32 * b.val + 31, hn⟩) := by
  obtain ⟨acc, e, -⟩ := outs_step m c (32 * b.val + 31) hn
  have e0 : ¬(⟨32 * b.val + 31, hn⟩ : Fin cfg0.N).val % 32 = 0 := by dsimp only; omega
  have e1 : (⟨32 * b.val + 31, hn⟩ : Fin cfg0.N).val % 32 = 31 := by dsimp only; omega
  rw [e.trans (stAt0_C m c ⟨32 * b.val + 31, hn⟩ acc e0 e1)]
  dsimp only
  refine ⟨?_, ?_, ?_, ?_, ?_⟩
  · rw [Point.y_C, Point.max_C, Point.sum_C, Point.acc_C]
  · rw [Point.kc_C]
  · rw [Point.ks_C]
  · rw [Point.vc_C]
  · rw [Point.vs_C]

theorem last_lt (b : Fin 4) : 32 * b.val + 31 < cfg0.N := lt_of_lt_of_eq (by omega : _ < 128) (show (128 : ℕ) = cfg0.N from N_0.symm)

/-- Every row of the 64 is query `g` of key head `h`. -/
theorem row_surj (r : Fin 64) : ∃ (h : Fin 16) (g : Fin 4), r = row h g :=
  ⟨⟨r.val / 4, by omega⟩, ⟨r.val % 4, by omega⟩, Fin.ext (by show r.val = 4 * (r.val / 4) + r.val % 4; omega)⟩

/-- Two arrays of rank three that agree at every index are one. -/
theorem ext3 {n0 n1 n2 : ℕ} {α : Type} {x y : Shape.Idx ⟨3, ![n0, n1, n2]⟩ → α}
    (h : ∀ (a : Fin n0) (b : Fin n1) (d : Fin n2), x (ix3 a b d) = y (ix3 a b d)) : x = y := by
  funext i
  have e : i = ix3 (i 0) (i 1) (i 2) := by
    funext a
    match a with
    | ⟨0, _⟩ => rfl
    | ⟨1, _⟩ => rfl
    | ⟨2, _⟩ => rfl
  rw [e]
  exact h _ _ _

/-! Each result array, read at an index. -/

theorem G8_apply (b : Fin 4) (r d : Fin 64) :
    (G8 m c : Vec Ideal S4x64x64 .bf16) (ix3 b r d) = (outsAt0 m c (32 * b.val + 31) (last_lt b)).1 (ix3 0 r d) := by
  have hp : pt8Of (ix3 b r d) = 32 * b.val + 31 := by
    show 32 * (1 * (b.val / 1 - 0) + 1 * (r.val / 64 - 0) + 1 * (d.val / 64 - 0)) + 31 = _
    omega
  have hl : loc8Of (ix3 b r d) = ix3 0 r d := by
    funext a; apply Fin.ext
    match a with
    | ⟨0, _⟩ => show b.val % 1 = 0; omega
    | ⟨1, _⟩ => show r.val % 64 = r.val; omega
    | ⟨2, _⟩ => show d.val % 64 = d.val; omega
  unfold G8
  rw [dif_pos (by rw [hp]; exact last_lt b), hl, outsAt0_sweep]
  exact congrArg (fun z => z.1 (ix3 0 r d)) (fold0_congr m c _ _ _ _ hp)

theorem G9_apply (b : Fin 4) (h : Fin 16) (d : Fin 64) :
    (G9 m c : Vec Ideal S4x16x64 .i8) (ix3 b h d) = (outsAt0 m c (32 * b.val + 31) (last_lt b)).2.1 (ix3 0 h d) := by
  have hp : pt9Of (ix3 b h d) = 32 * b.val + 31 := by
    show 32 * (1 * (b.val / 1 - 0) + 1 * (h.val / 16 - 0) + 1 * (d.val / 64 - 0)) + 31 = _
    omega
  have hl : loc9Of (ix3 b h d) = ix3 0 h d := by
    funext a; apply Fin.ext
    match a with
    | ⟨0, _⟩ => show b.val % 1 = 0; omega
    | ⟨1, _⟩ => show h.val % 16 = h.val; omega
    | ⟨2, _⟩ => show d.val % 64 = d.val; omega
  unfold G9
  rw [dif_pos (by rw [hp]; exact last_lt b), hl, outsAt0_sweep]
  exact congrArg (fun z => z.2.1 (ix3 0 h d)) (fold0_congr m c _ _ _ _ hp)

theorem G10_apply (b : Fin 4) (h : Fin 16) (d : Fin 1) :
    (G10 m c : Vec Ideal S4x16x1 .f32) (ix3 b h d) = (outsAt0 m c (32 * b.val + 31) (last_lt b)).2.2.1 (ix3 0 h d) := by
  have hp : pt10Of (ix3 b h d) = 32 * b.val + 31 := by
    show 32 * (1 * (b.val / 1 - 0) + 1 * (h.val / 16 - 0) + 1 * (d.val / 1 - 0)) + 31 = _
    omega
  have hl : loc10Of (ix3 b h d) = ix3 0 h d := by
    funext a; apply Fin.ext
    match a with
    | ⟨0, _⟩ => show b.val % 1 = 0; omega
    | ⟨1, _⟩ => show h.val % 16 = h.val; omega
    | ⟨2, _⟩ => show d.val % 1 = d.val; omega
  unfold G10
  rw [dif_pos (by rw [hp]; exact last_lt b), hl, outsAt0_sweep]
  exact congrArg (fun z => z.2.2.1 (ix3 0 h d)) (fold0_congr m c _ _ _ _ hp)

theorem G11_apply (b : Fin 4) (h : Fin 16) (d : Fin 64) :
    (G11 m c : Vec Ideal S4x16x64 .i8) (ix3 b h d) = (outsAt0 m c (32 * b.val + 31) (last_lt b)).2.2.2.1 (ix3 0 h d) := by
  have hp : pt11Of (ix3 b h d) = 32 * b.val + 31 := by
    show 32 * (1 * (b.val / 1 - 0) + 1 * (h.val / 16 - 0) + 1 * (d.val / 64 - 0)) + 31 = _
    omega
  have hl : loc11Of (ix3 b h d) = ix3 0 h d := by
    funext a; apply Fin.ext
    match a with
    | ⟨0, _⟩ => show b.val % 1 = 0; omega
    | ⟨1, _⟩ => show h.val % 16 = h.val; omega
    | ⟨2, _⟩ => show d.val % 64 = d.val; omega
  unfold G11
  rw [dif_pos (by rw [hp]; exact last_lt b), hl, outsAt0_sweep]
  exact congrArg (fun z => z.2.2.2.1 (ix3 0 h d)) (fold0_congr m c _ _ _ _ hp)

theorem G12_apply (b : Fin 4) (h : Fin 16) (d : Fin 1) :
    (G12 m c : Vec Ideal S4x16x1 .f32) (ix3 b h d) = (outsAt0 m c (32 * b.val + 31) (last_lt b)).2.2.2.2.1 (ix3 0 h d) := by
  have hp : pt12Of (ix3 b h d) = 32 * b.val + 31 := by
    show 32 * (1 * (b.val / 1 - 0) + 1 * (h.val / 16 - 0) + 1 * (d.val / 1 - 0)) + 31 = _
    omega
  have hl : loc12Of (ix3 b h d) = ix3 0 h d := by
    funext a; apply Fin.ext
    match a with
    | ⟨0, _⟩ => show b.val % 1 = 0; omega
    | ⟨1, _⟩ => show h.val % 16 = h.val; omega
    | ⟨2, _⟩ => show d.val % 1 = d.val; omega
  unfold G12
  rw [dif_pos (by rw [hp]; exact last_lt b), hl, outsAt0_sweep]
  exact congrArg (fun z => z.2.2.2.2.1 (ix3 0 h d)) (fold0_congr m c _ _ _ _ hp)

section Results

variable (it : ℕ → RState) (hit : ∀ n, it (n + 1) = Cert.ReferenceIdeal.Step.step n (it n))
  (h0 : Cache m c (it 0)) (h7 : (it 0).main_v6_7 = Cert.ReferenceIdeal.Step.K_main_v0)
  (h8 : (it 0).main_v6_8 = Cert.ReferenceIdeal.Step.K_main_v1) (h9 : (it 0).main_v6_9 = Cert.ReferenceIdeal.Step.K_main_v2)

/-- The new token's key, read off its block. -/
theorem tok2 (b : Fin 4) (h : Fin 16) :
    Out.tokRow (iblk m c 2 ⟨32 * b.val + 31, last_lt b⟩) h
      = Cert.ReferenceIdeal.Out.tokRow (m ((c : Thread nD τ).loc main_arg1)) b h :=
  funext fun d => Blocks.blk2 m c ⟨32 * b.val + 31, last_lt b⟩ b 31 (by omega) rfl h d

/-- The new token's value, read off its block. -/
theorem tok3 (b : Fin 4) (h : Fin 16) :
    Out.tokRow (iblk m c 3 ⟨32 * b.val + 31, last_lt b⟩) h
      = Cert.ReferenceIdeal.Out.tokRow (m ((c : Thread nD τ).loc main_arg2)) b h :=
  funext fun d => Blocks.blk3 m c ⟨32 * b.val + 31, last_lt b⟩ b 31 (by omega) rfl h d

/-- The new token's score. -/
theorem new_eq (b : Fin 4) (h : Fin 16) (g : Fin 4) :
    Out.newScore (iblk m c 1 ⟨32 * b.val + 31, last_lt b⟩) (iblk m c 2 ⟨32 * b.val + 31, last_lt b⟩) h g
      = Cert.ReferenceIdeal.Out.newScore (m ((c : Thread nD τ).loc main_arg0)) (m ((c : Thread nD τ).loc main_arg1)) b h g := by
  unfold Out.newScore Cert.ReferenceIdeal.Out.newScore
  rw [tok2 m c b h]
  refine congrArg (fun q => score q _) ?_
  funext d
  exact Blocks.blk1 m c ⟨32 * b.val + 31, last_lt b⟩ b 31 (by omega) rfl h g d

include hit h0 h7 h8 h9 in
/-- The attention output. -/
theorem y_eq : (G8 m c : Vec Ideal S4x64x64 .bf16)
    = Cert.ReferenceIdeal.Step.R_main_v83 (it 32) (m ((c : Thread nD τ).loc main_arg0)) (m ((c : Thread nD τ).loc main_arg1))
        (m ((c : Thread nD τ).loc main_arg2)) := by
  refine ext3 fun b r d => ?_
  obtain ⟨h, g, rfl⟩ := row_surj r
  have ha := after_all m c it hit h0 h7 h8 h9 b 31 (by omega) (last_lt b)
  rw [G8_apply, (outs_last m c b (last_lt b)).1, Out.outY_apply, ha.max, ha.sum, ha.acc, new_eq, tok3]
  exact ((Cert.ReferenceIdeal.Out.v83_apply (it 32) _ _ _ b h g d).trans
    (Cert.ReferenceIdeal.Out.oF_apply (it 32) _ _ _ b h g d)).symm

/-- The new token's key codes. -/
theorem kc_eq (s : RState) : (G9 m c : Vec Ideal S4x16x64 .i8)
    = Cert.ReferenceIdeal.Step.R_main_v84 s (m ((c : Thread nD τ).loc main_arg1)) := by
  refine ext3 fun b h d => ?_
  rw [G9_apply, (outs_last m c b (last_lt b)).2.1, Out.outKC_apply, tok2]
  exact (Cert.ReferenceIdeal.Out.v84_apply s _ b h d).symm

/-- The new token's key scales. -/
theorem ks_eq (s : RState) : (G10 m c : Vec Ideal S4x16x1 .f32)
    = Cert.ReferenceIdeal.Step.R_main_v85 s (m ((c : Thread nD τ).loc main_arg1)) := by
  refine ext3 fun b h d => ?_
  obtain rfl : d = 0 := Subsingleton.elim _ _
  rw [G10_apply, (outs_last m c b (last_lt b)).2.2.1, Out.outKS_apply, tok2]
  exact (Cert.ReferenceIdeal.Out.v85_apply s _ b h).symm

/-- The new token's value codes. -/
theorem vc_eq (s : RState) : (G11 m c : Vec Ideal S4x16x64 .i8)
    = Cert.ReferenceIdeal.Step.R_main_v86 s (m ((c : Thread nD τ).loc main_arg2)) := by
  refine ext3 fun b h d => ?_
  rw [G11_apply, (outs_last m c b (last_lt b)).2.2.2.1, Out.outVC_apply, tok3]
  exact (Cert.ReferenceIdeal.Out.v86_apply s _ b h d).symm

/-- The new token's value scales. -/
theorem vs_eq (s : RState) : (G12 m c : Vec Ideal S4x16x1 .f32)
    = Cert.ReferenceIdeal.Step.R_main_v87 s (m ((c : Thread nD τ).loc main_arg2)) := by
  refine ext3 fun b h d => ?_
  obtain rfl : d = 0 := Subsingleton.elim _ _
  rw [G12_apply, (outs_last m c b (last_lt b)).2.2.2.2, Out.outVS_apply, tok3]
  exact (Cert.ReferenceIdeal.Out.v87_apply s _ b h).symm

end Results

end Cert.KernelIdeal.Final
-- ==== Proof.lean ====
/-
  The certificate: the kernel, its reading over the extended reals and the reference each run, leave their arguments
  unchanged and end with every semaphore counter at zero; and the kernel's five results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.KernelIdeal.Invariant (RState)

/-- The reference's carry after `n` trips. -/
def carry (m : (ℓ : Loc Cert.ReferenceIdeal.nD Cert.ReferenceIdeal.τ Cert.ReferenceIdeal.sig) → Buf (Elt Ideal) ℓ)
    (c : Dev Cert.ReferenceIdeal.nD) : ℕ → RState
  | 0 => Cert.ReferenceIdeal.StepRun.initState m c
  | n + 1 => Cert.ReferenceIdeal.Step.step n (carry m c n)

/-- The reference leaves its arguments unchanged; it declares no semaphore. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2.2.2, sem_eq_zero_of_no_sems rfl r.2⟩) (Cert.ReferenceIdeal.StepRun.run_iter m g (carry m) (fun _ => rfl) (fun _ _ => rfl))

/-- The kernel's results are the reference's. -/
theorem values : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G8 m c, fun c => Cert.KernelIdeal.Value.G9 m c,
    fun c => Cert.KernelIdeal.Value.G10 m c, fun c => Cert.KernelIdeal.Value.G11 m c,
    fun c => Cert.KernelIdeal.Value.G12 m c, Cert.KernelIdeal.Value.run m g, ?_⟩
  refine (θ_run Cert.ReferenceIdeal.defs _ _).mono (fun r h c => ?_)
    (Cert.ReferenceIdeal.StepRun.run_iter m' g' (carry m') (fun _ => rfl) (fun _ _ => rfl))
  obtain ⟨a0, a1, a2, a3, a4, a5, a6⟩ := hagree c
  obtain ⟨r0, r1, r2, r3, r4, rest⟩ := h c
  rw [a0, a1, a2] at r0
  rw [a1] at r1 r2
  rw [a2] at r3 r4
  have hc : Cert.KernelIdeal.Invariant.Cache m c (carry m' c 0) := ⟨a0, a3, a4, a5, a6⟩
  exact ⟨r0.trans (Cert.KernelIdeal.Final.y_eq m c (carry m' c) (fun _ => rfl) hc rfl rfl rfl).symm,
    r1.trans (Cert.KernelIdeal.Final.kc_eq m c (carry m' c 32)).symm,
    r2.trans (Cert.KernelIdeal.Final.ks_eq m c (carry m' c 32)).symm,
    r3.trans (Cert.KernelIdeal.Final.vc_eq m c (carry m' c 32)).symm,
    r4.trans (Cert.KernelIdeal.Final.vs_eq m c (carry m' c 32)).symm, rest⟩

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, values⟩

end Cert.Proof

end
